-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v11) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16x2048x1024 : Shape := ⟨3, ![16, 2048, 1024]⟩
abbrev S16x1x6144 : Shape := ⟨3, ![16, 1, 6144]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S1024x2048 : Shape := ⟨2, ![1024, 2048]⟩
abbrev S4x128x128 : Shape := ⟨3, ![4, 128, 128]⟩
abbrev S16x2048x512 : Shape := ⟨3, ![16, 2048, 512]⟩
abbrev S16x16x512 : Shape := ⟨3, ![16, 16, 512]⟩
abbrev S1x1024x1024 : Shape := ⟨3, ![1, 1024, 1024]⟩
abbrev S1x1x6144 : Shape := ⟨3, ![1, 1, 6144]⟩
abbrev S1x1024x512 : Shape := ⟨3, ![1, 1024, 512]⟩
abbrev S1x16x512 : Shape := ⟨3, ![1, 16, 512]⟩
abbrev S16x512 : Shape := ⟨2, ![16, 512]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1024x512 : Shape := ⟨2, ![1024, 512]⟩
abbrev S1024x1536 : Shape := ⟨2, ![1024, 1536]⟩
abbrev S1040x512 : Shape := ⟨2, ![1040, 512]⟩
abbrev S16x1 : Shape := ⟨2, ![16, 1]⟩
abbrev S1040x128 : Shape := ⟨2, ![1040, 128]⟩
abbrev S16x128 : Shape := ⟨2, ![16, 128]⟩
abbrev S1008x128 : Shape := ⟨2, ![1008, 128]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 15
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x1x6144, .f32⟩
  | .hbm, ⟨2, _⟩ => ⟨S1x1024, .f32⟩
  | .hbm, ⟨3, _⟩ => ⟨S1x1024x2048, .f32⟩
  | .hbm, ⟨4, _⟩ => ⟨S1x4x128x128, .f32⟩
  | .hbm, ⟨5, _⟩ => ⟨S1x512, .f32⟩
  | .hbm, ⟨6, _⟩ => ⟨S1024x2048, .f32⟩
  | .hbm, ⟨7, _⟩ => ⟨S1024x2048, .bf16⟩
  | .hbm, ⟨8, _⟩ => ⟨S4x128x128, .f32⟩
  | .hbm, ⟨9, _⟩ => ⟨S4x128x128, .bf16⟩
  | .hbm, ⟨10, _⟩ => ⟨S16x2048x512, .bf16⟩
  | .hbm, ⟨11, _⟩ => ⟨S16x2048x512, .f32⟩
  | .hbm, ⟨12, _⟩ => ⟨S16x2048x512, .f32⟩
  | .hbm, ⟨13, _⟩ => ⟨S16x2048x512, .bf16⟩
  | .hbm, ⟨14, _⟩ => ⟨S16x16x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2048, .bf16⟩
  | .local _ .vmem, ⟨6, _⟩ => ⟨S4x128x128, .bf16⟩
  | .local _ .vmem, ⟨7, _⟩ => ⟨S1x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .bf16⟩
  | .local _ .vmem, ⟨15, _⟩ => ⟨S1x1024x512, .bf16⟩
  | .local _ .vmem, ⟨16, _⟩ => ⟨S1x16x512, .f32⟩
  | .local _ .vmem, ⟨17, _⟩ => ⟨S1x16x512, .f32⟩
  | .local _ .vmem, ⟨18, _⟩ => ⟨S16x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16x2048x1024 : Shape := ⟨3, ![16, 2048, 1024]⟩
abbrev S16x1x6144 : Shape := ⟨3, ![16, 1, 6144]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2048 : Shape := ⟨2, ![1024, 2048]⟩
abbrev S16x2048x2048 : Shape := ⟨3, ![16, 2048, 2048]⟩
abbrev S16x2048x512 : Shape := ⟨3, ![16, 2048, 512]⟩
abbrev S4x128x128 : Shape := ⟨3, ![4, 128, 128]⟩
abbrev S512 : Shape := ⟨1, ![512]⟩
abbrev S2048 : Shape := ⟨1, ![2048]⟩
abbrev S16x2048x128 : Shape := ⟨3, ![16, 2048, 128]⟩
abbrev S1x2048x1 : Shape := ⟨3, ![1, 2048, 1]⟩
abbrev S16x2048x1x128 : Shape := ⟨4, ![16, 2048, 1, 128]⟩
abbrev S16x2048x4x128 : Shape := ⟨4, ![16, 2048, 4, 128]⟩
abbrev S4x128x16x2048 : Shape := ⟨4, ![4, 128, 16, 2048]⟩
abbrev S1x1x512 : Shape := ⟨3, ![1, 1, 512]⟩
abbrev S16x16x512 : Shape := ⟨3, ![16, 16, 512]⟩

abbrev nBuf : Space → Nat
  | .hbm => 118
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x6144, .f32⟩
  | .hbm, ⟨2, _⟩ => ⟨S1x1024, .f32⟩
  | .hbm, ⟨3, _⟩ => ⟨S1x1024x2048, .f32⟩
  | .hbm, ⟨4, _⟩ => ⟨S1x4x128x128, .f32⟩
  | .hbm, ⟨5, _⟩ => ⟨S1x512, .f32⟩
  | .hbm, ⟨6, _⟩ => ⟨S16x1x1024, .f32⟩
  | .hbm, ⟨7, _⟩ => ⟨S16x1x1024, .f32⟩
  | .hbm, ⟨8, _⟩ => ⟨S1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S1024x2048, .f32⟩
  | .hbm, ⟨33, _⟩ => ⟨S16x2048x2048, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S4x128x128, .f32⟩
  | .hbm, ⟨39, _⟩ => ⟨S512, .f32⟩
  | .hbm, ⟨40, _⟩ => ⟨S2048, .i32⟩
  | .hbm, ⟨41, _⟩ => ⟨S16x2048x128, .f32⟩
  | .hbm, ⟨42, _⟩ => ⟨S_, .f32⟩
  | .hbm, ⟨43, _⟩ => ⟨S_, .f32⟩
  | .hbm, ⟨44, _⟩ => ⟨S16x2048x128, .f32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .f32⟩
  | .hbm, ⟨52, _⟩ => ⟨S1x2048x1, .f32⟩
  | .hbm, ⟨53, _⟩ => ⟨S16x2048x128, .f32⟩
  | .hbm, ⟨54, _⟩ => ⟨S16x2048x128, .f32⟩
  | .hbm, ⟨55, _⟩ => ⟨S16x2048x128, .f32⟩
  | .hbm, ⟨56, _⟩ => ⟨S16x2048x128, .f32⟩
  | .hbm, ⟨57, _⟩ => ⟨S_, .f32⟩
  | .hbm, ⟨58, _⟩ => ⟨S_, .f32⟩
  | .hbm, ⟨59, _⟩ => ⟨S16x2048x128, .f32⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .f32⟩
  | .hbm, ⟨67, _⟩ => ⟨S1x2048x1, .f32⟩
  | .hbm, ⟨68, _⟩ => ⟨S16x2048x128, .f32⟩
  | .hbm, ⟨69, _⟩ => ⟨S16x2048x128, .f32⟩
  | .hbm, ⟨70, _⟩ => ⟨S16x2048x128, .f32⟩
  | .hbm, ⟨71, _⟩ => ⟨S16x2048x128, .f32⟩
  | .hbm, ⟨72, _⟩ => ⟨S_, .f32⟩
  | .hbm, ⟨73, _⟩ => ⟨S_, .f32⟩
  | .hbm, ⟨74, _⟩ => ⟨S16x2048x128, .f32⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S_, .i32⟩
  | .hbm, ⟨79, _⟩ => ⟨S2048, .i32⟩
  | .hbm, ⟨80, _⟩ => ⟨S2048, .i32⟩
  | .hbm, ⟨81, _⟩ => ⟨S2048, .f32⟩
  | .hbm, ⟨82, _⟩ => ⟨S1x2048x1, .f32⟩
  | .hbm, ⟨83, _⟩ => ⟨S16x2048x128, .f32⟩
  | .hbm, ⟨84, _⟩ => ⟨S16x2048x128, .f32⟩
  | .hbm, ⟨85, _⟩ => ⟨S16x2048x128, .f32⟩
  | .hbm, ⟨86, _⟩ => ⟨S16x2048x128, .f32⟩
  | .hbm, ⟨87, _⟩ => ⟨S_, .f32⟩
  | .hbm, ⟨88, _⟩ => ⟨S_, .f32⟩
  | .hbm, ⟨89, _⟩ => ⟨S16x2048x128, .f32⟩
  | .hbm, ⟨90, _⟩ => ⟨S_, .i32⟩
  | .hbm, ⟨91, _⟩ => ⟨S2048, .i32⟩
  | .hbm, ⟨92, _⟩ => ⟨S2048, .i32⟩
  | .hbm, ⟨93, _⟩ => ⟨S_, .i32⟩
  | .hbm, ⟨94, _⟩ => ⟨S2048, .i32⟩
  | .hbm, ⟨95, _⟩ => ⟨S2048, .i32⟩
  | .hbm, ⟨96, _⟩ => ⟨S2048, .f32⟩
  | .hbm, ⟨97, _⟩ => ⟨S1x2048x1, .f32⟩
  | .hbm, ⟨98, _⟩ => ⟨S16x2048x128, .f32⟩
  | .hbm, ⟨99, _⟩ => ⟨S16x2048x128, .f32⟩
  | .hbm, ⟨100, _⟩ => ⟨S16x2048x128, .f32⟩
  | .hbm, ⟨101, _⟩ => ⟨S16x2048x1x128, .f32⟩
  | .hbm, ⟨102, _⟩ => ⟨S16x2048x1x128, .f32⟩
  | .hbm, ⟨103, _⟩ => ⟨S16x2048x1x128, .f32⟩
  | .hbm, ⟨104, _⟩ => ⟨S16x2048x1x128, .f32⟩
  | .hbm, ⟨105, _⟩ => ⟨S16x2048x4x128, .f32⟩
  | .hbm, ⟨106, _⟩ => ⟨S4x128x16x2048, .f32⟩
  | .hbm, ⟨107, _⟩ => ⟨S16x2048x4x128, .f32⟩
  | .hbm, ⟨108, _⟩ => ⟨S16x2048x512, .f32⟩
  | .hbm, ⟨109, _⟩ => ⟨S1x1x512, .f32⟩
  | .hbm, ⟨110, _⟩ => ⟨S16x2048x512, .f32⟩
  | .hbm, ⟨111, _⟩ => ⟨S16x2048x512, .f32⟩
  | .hbm, ⟨112, _⟩ => ⟨S_, .f32⟩
  | .hbm, ⟨113, _⟩ => ⟨S16x2048x512, .f32⟩
  | .hbm, ⟨114, _⟩ => ⟨S16x2048x512, .f32⟩
  | .hbm, ⟨115, _⟩ => ⟨S16x2048x512, .bf16⟩
  | .hbm, ⟨116, _⟩ => ⟨S16x2048x512, .bf16⟩
  | .hbm, ⟨117, _⟩ => ⟨S16x16x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_c_6 : Ref sig .tc := ⟨.hbm, 60, rfl⟩
abbrev main_v46 : Ref sig .tc := ⟨.hbm, 61, rfl⟩
abbrev main_v47 : Ref sig .tc := ⟨.hbm, 62, rfl⟩
abbrev main_c_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_c_9 : Ref sig .tc := ⟨.hbm, 75, rfl⟩
abbrev main_v58 : Ref sig .tc := ⟨.hbm, 76, rfl⟩
abbrev main_v59 : Ref sig .tc := ⟨.hbm, 77, rfl⟩
abbrev main_c_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_c_12 : Ref sig .tc := ⟨.hbm, 90, rfl⟩
abbrev main_v70 : Ref sig .tc := ⟨.hbm, 91, rfl⟩
abbrev main_v71 : Ref sig .tc := ⟨.hbm, 92, rfl⟩
abbrev main_c_13 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_14 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩

abbrev nD : Nat := 1
abbrev τ : Topo := Topo.v7x

variable {F : FTy → Type} [FloatOps F]
-- ==== Kernel2.lean ====
abbrev S32x4x1024 : Shape := ⟨3, ![32, 4, 1024]⟩
abbrev S1x128x512 : Shape := ⟨3, ![1, 128, 512]⟩
abbrev S32x6144 : Shape := ⟨2, ![32, 6144]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S32x128 : Shape := ⟨2, ![32, 128]⟩
abbrev S1x128x1024 : Shape := ⟨3, ![1, 128, 1024]⟩
abbrev S32x4x6144 : Shape := ⟨3, ![32, 4, 6144]⟩
abbrev S128x6144 : Shape := ⟨2, ![128, 6144]⟩
abbrev S1x128x6144 : Shape := ⟨3, ![1, 128, 6144]⟩
abbrev S1024x1024 : Shape := ⟨2, ![1024, 1024]⟩
abbrev S1024x4096 : Shape := ⟨2, ![1024, 4096]⟩
abbrev S4096x1024 : Shape := ⟨2, ![4096, 1024]⟩
abbrev S128x1024 : Shape := ⟨2, ![128, 1024]⟩
abbrev S128x512 : Shape := ⟨2, ![128, 512]⟩
abbrev S512x1024 : Shape := ⟨2, ![512, 1024]⟩
abbrev S128 : Shape := ⟨1, ![128]⟩
abbrev S128x1 : Shape := ⟨2, ![128, 1]⟩
abbrev S128x4096 : Shape := ⟨2, ![128, 4096]⟩

abbrev nBuf : Space → Nat
  | .hbm => 21
  | .vmem => 10
  | .smem => 1
  | _ => 0

abbrev bufTy : (tb : Table) → Fin (tcTables nBuf tb) → BufTy
  | .hbm, ⟨0, _⟩ => ⟨S32x4x1024, .f32⟩
  | .hbm, ⟨1, _⟩ => ⟨S1x128x512, .bf16⟩
  | .hbm, ⟨2, _⟩ => ⟨S1x128x512, .bf16⟩
  | .hbm, ⟨3, _⟩ => ⟨S32x6144, .f32⟩
  | .hbm, ⟨4, _⟩ => ⟨S1x1024, .f32⟩
  | .hbm, ⟨5, _⟩ => ⟨S1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S1x128x1024, .f32⟩
  | .hbm, ⟨10, _⟩ => ⟨S32x4x6144, .f32⟩
  | .hbm, ⟨11, _⟩ => ⟨S128x6144, .f32⟩
  | .hbm, ⟨12, _⟩ => ⟨S1x128x6144, .f32⟩
  | .hbm, ⟨13, _⟩ => ⟨S1024x1024, .f32⟩
  | .hbm, ⟨14, _⟩ => ⟨S1024x1024, .bf16⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S1x128x1024, .f32⟩
  | .local _ .vmem, ⟨0, _⟩ => ⟨S1x128x1024, .f32⟩
  | .local _ .vmem, ⟨1, _⟩ => ⟨S1x128x512, .bf16⟩
  | .local _ .vmem, ⟨2, _⟩ => ⟨S1x128x512, .bf16⟩
  | .local _ .vmem, ⟨3, _⟩ => ⟨S1x128x6144, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x4096, .bf16⟩
  | .local _ .vmem, ⟨8, _⟩ => ⟨S4096x1024, .bf16⟩
  | .local _ .vmem, ⟨9, _⟩ => ⟨S1x128x1024, .f32⟩
  | .local _ .smem, ⟨0, _⟩ => ⟨S32x128, .i32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_arg9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== Reference2Ideal.lean ====
abbrev S32x4x1024 : Shape := ⟨3, ![32, 4, 1024]⟩
abbrev S1x128x512 : Shape := ⟨3, ![1, 128, 512]⟩
abbrev S32x6144 : Shape := ⟨2, ![32, 6144]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S32x128 : Shape := ⟨2, ![32, 128]⟩
abbrev S32x4096 : Shape := ⟨2, ![32, 4096]⟩
abbrev S32x1x4096 : Shape := ⟨3, ![32, 1, 4096]⟩
abbrev S32x1x1024 : Shape := ⟨3, ![32, 1, 1024]⟩
abbrev S32x4x512 : Shape := ⟨3, ![32, 4, 512]⟩
abbrev S1024x1024 : Shape := ⟨2, ![1024, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x4096 : Shape := ⟨2, ![1024, 4096]⟩
abbrev S32x4x4096 : Shape := ⟨3, ![32, 4, 4096]⟩
abbrev S4096x1024 : Shape := ⟨2, ![4096, 1024]⟩
abbrev S1x128x1024 : Shape := ⟨3, ![1, 128, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x128x512, .bf16⟩
  | .hbm, ⟨2, _⟩ => ⟨S1x128x512, .bf16⟩
  | .hbm, ⟨3, _⟩ => ⟨S32x6144, .f32⟩
  | .hbm, ⟨4, _⟩ => ⟨S1x1024, .f32⟩
  | .hbm, ⟨5, _⟩ => ⟨S1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S32x128, .i32⟩
  | .hbm, ⟨10, _⟩ => ⟨S32x4096, .f32⟩
  | .hbm, ⟨11, _⟩ => ⟨S32x1x4096, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x4x512, .bf16⟩
  | .hbm, ⟨17, _⟩ => ⟨S32x4x512, .bf16⟩
  | .hbm, ⟨18, _⟩ => ⟨S32x4x1024, .bf16⟩
  | .hbm, ⟨19, _⟩ => ⟨S32x4x1024, .f32⟩
  | .hbm, ⟨20, _⟩ => ⟨S1024x1024, .f32⟩
  | .hbm, ⟨21, _⟩ => ⟨S32x4x1024, .f32⟩
  | .hbm, ⟨22, _⟩ => ⟨S32x4x1024, .f32⟩
  | .hbm, ⟨23, _⟩ => ⟨S32x4x1024, .f32⟩
  | .hbm, ⟨24, _⟩ => ⟨S32x4x1024, .f32⟩
  | .hbm, ⟨25, _⟩ => ⟨S1024, .f32⟩
  | .hbm, ⟨26, _⟩ => ⟨S32x4x1024, .f32⟩
  | .hbm, ⟨27, _⟩ => ⟨S_, .f32⟩
  | .hbm, ⟨28, _⟩ => ⟨S32x4, .f32⟩
  | .hbm, ⟨29, _⟩ => ⟨S32x4x1, .f32⟩
  | .hbm, ⟨30, _⟩ => ⟨S_, .f32⟩
  | .hbm, ⟨31, _⟩ => ⟨S32x4x1, .f32⟩
  | .hbm, ⟨32, _⟩ => ⟨S32x4x1, .f32⟩
  | .hbm, ⟨33, _⟩ => ⟨S_, .f32⟩
  | .hbm, ⟨34, _⟩ => ⟨S32x4x1, .f32⟩
  | .hbm, ⟨35, _⟩ => ⟨S32x4x1, .f32⟩
  | .hbm, ⟨36, _⟩ => ⟨S32x4x1, .f32⟩
  | .hbm, ⟨37, _⟩ => ⟨S32x4x1024, .f32⟩
  | .hbm, ⟨38, _⟩ => ⟨S32x4x1024, .f32⟩
  | .hbm, ⟨39, _⟩ => ⟨S1x1x1024, .f32⟩
  | .hbm, ⟨40, _⟩ => ⟨S32x4x1024, .f32⟩
  | .hbm, ⟨41, _⟩ => ⟨S32x4x1024, .f32⟩
  | .hbm, ⟨42, _⟩ => ⟨S_, .f32⟩
  | .hbm, ⟨43, _⟩ => ⟨S32x1x1024, .f32⟩
  | .hbm, ⟨44, _⟩ => ⟨S32x1x1024, .f32⟩
  | .hbm, ⟨45, _⟩ => ⟨S32x4x1024, .f32⟩
  | .hbm, ⟨46, _⟩ => ⟨S32x4x1024, .f32⟩
  | .hbm, ⟨47, _⟩ => ⟨S32x4x1024, .f32⟩
  | .hbm, ⟨48, _⟩ => ⟨S32x4x1024, .f32⟩
  | .hbm, ⟨49, _⟩ => ⟨S1024x4096, .f32⟩
  | .hbm, ⟨50, _⟩ => ⟨S32x4x4096, .f32⟩
  | .hbm, ⟨51, _⟩ => ⟨S_, .f32⟩
  | .hbm, ⟨52, _⟩ => ⟨S32x4x4096, .f32⟩
  | .hbm, ⟨53, _⟩ => ⟨S32x4x4096, .f32⟩
  | .hbm, ⟨54, _⟩ => ⟨S32x4x4096, .f32⟩
  | .hbm, ⟨55, _⟩ => ⟨S4096x1024, .f32⟩
  | .hbm, ⟨56, _⟩ => ⟨S32x4x1024, .f32⟩
  | .hbm, ⟨57, _⟩ => ⟨S32x4x1024, .f32⟩
  | .hbm, ⟨58, _⟩ => ⟨S32x4x1024, .f32⟩
  | .hbm, ⟨59, _⟩ => ⟨S32x4x1024, .f32⟩
  | .hbm, ⟨60, _⟩ => ⟨S32x4x1024, .f32⟩
  | .hbm, ⟨61, _⟩ => ⟨S_, .f32⟩
  | .hbm, ⟨62, _⟩ => ⟨S32x4, .f32⟩
  | .hbm, ⟨63, _⟩ => ⟨S32x4x1, .f32⟩
  | .hbm, ⟨64, _⟩ => ⟨S_, .f32⟩
  | .hbm, ⟨65, _⟩ => ⟨S32x4x1, .f32⟩
  | .hbm, ⟨66, _⟩ => ⟨S32x4x1, .f32⟩
  | .hbm, ⟨67, _⟩ => ⟨S_, .f32⟩
  | .hbm, ⟨68, _⟩ => ⟨S32x4x1, .f32⟩
  | .hbm, ⟨69, _⟩ => ⟨S32x4x1, .f32⟩
  | .hbm, ⟨70, _⟩ => ⟨S32x4x1, .f32⟩
  | .hbm, ⟨71, _⟩ => ⟨S32x4x1024, .f32⟩
  | .hbm, ⟨72, _⟩ => ⟨S32x4x1024, .f32⟩
  | .hbm, ⟨73, _⟩ => ⟨S1x1x1024, .f32⟩
  | .hbm, ⟨74, _⟩ => ⟨S32x4x1024, .f32⟩
  | .hbm, ⟨75, _⟩ => ⟨S32x4x1024, .f32⟩
  | .hbm, ⟨76, _⟩ => ⟨S1x128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel3.lean ====
abbrev S32x4x1024 : Shape := ⟨3, ![32, 4, 1024]⟩
abbrev S32x6144 : Shape := ⟨2, ![32, 6144]⟩
abbrev S1x1024 : Shape := ⟨2, ![1, 1024]⟩
abbrev S1x1024x2048 : Shape := ⟨3, ![1, 1024, 2048]⟩
abbrev S1x32x15x512 : Shape := ⟨4, ![1, 32, 15, 512]⟩
abbrev S1x128x1024 : Shape := ⟨3, ![1, 128, 1024]⟩
abbrev S32x4x6144 : Shape := ⟨3, ![32, 4, 6144]⟩
abbrev S128x6144 : Shape := ⟨2, ![128, 6144]⟩
abbrev S1x128x6144 : Shape := ⟨3, ![1, 128, 6144]⟩
abbrev S1024x2048 : Shape := ⟨2, ![1024, 2048]⟩
abbrev S1x128x512 : Shape := ⟨3, ![1, 128, 512]⟩
abbrev S128x1024 : Shape := ⟨2, ![128, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S1024x1536 : Shape := ⟨2, ![1024, 1536]⟩
abbrev S128x1536 : Shape := ⟨2, ![128, 1536]⟩
abbrev S32x15x512 : Shape := ⟨3, ![32, 15, 512]⟩
abbrev S32x4x512 : Shape := ⟨3, ![32, 4, 512]⟩
abbrev S32x19x512 : Shape := ⟨3, ![32, 19, 512]⟩

abbrev nBuf : Space → Nat
  | .hbm => 20
  | .vmem => 8
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S1x1024, .f32⟩
  | .hbm, ⟨3, _⟩ => ⟨S1x1024x2048, .f32⟩
  | .hbm, ⟨4, _⟩ => ⟨S1x32x15x512, .f32⟩
  | .hbm, ⟨5, _⟩ => ⟨S1x128x1024, .f32⟩
  | .hbm, ⟨6, _⟩ => ⟨S32x4x6144, .f32⟩
  | .hbm, ⟨7, _⟩ => ⟨S128x6144, .f32⟩
  | .hbm, ⟨8, _⟩ => ⟨S1x128x6144, .f32⟩
  | .hbm, ⟨9, _⟩ => ⟨S1024x2048, .f32⟩
  | .hbm, ⟨10, _⟩ => ⟨S1024x2048, .bf16⟩
  | .hbm, ⟨11, _⟩ => ⟨S1x128x512, .bf16⟩
  | .hbm, ⟨12, _⟩ => ⟨S1x128x512, .f32⟩
  | .hbm, ⟨13, _⟩ => ⟨S1x128x512, .f32⟩
  | .hbm, ⟨14, _⟩ => ⟨S1x128x512, .f32⟩
  | .hbm, ⟨15, _⟩ => ⟨S32x15x512, .f32⟩
  | .hbm, ⟨16, _⟩ => ⟨S32x4x512, .f32⟩
  | .hbm, ⟨17, _⟩ => ⟨S32x19x512, .f32⟩
  | .hbm, ⟨18, _⟩ => ⟨S32x15x512, .f32⟩
  | .hbm, ⟨19, _⟩ => ⟨S1x32x15x512, .f32⟩
  | .local _ .vmem, ⟨0, _⟩ => ⟨S1x128x1024, .f32⟩
  | .local _ .vmem, ⟨1, _⟩ => ⟨S1x128x6144, .f32⟩
  | .local _ .vmem, ⟨2, _⟩ => ⟨S1x1024, .f32⟩
  | .local _ .vmem, ⟨3, _⟩ => ⟨S1024x2048, .bf16⟩
  | .local _ .vmem, ⟨4, _⟩ => ⟨S1x128x512, .bf16⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference3Ideal.lean ====
abbrev S32x4x1024 : Shape := ⟨3, ![32, 4, 1024]⟩
abbrev S32x6144 : Shape := ⟨2, ![32, 6144]⟩
abbrev S1x1024 : Shape := ⟨2, ![1, 1024]⟩
abbrev S1x1024x2048 : Shape := ⟨3, ![1, 1024, 2048]⟩
abbrev S1x32x15x512 : Shape := ⟨4, ![1, 32, 15, 512]⟩
abbrev S32x1024 : Shape := ⟨2, ![32, 1024]⟩
abbrev S32x1x1024 : Shape := ⟨3, ![32, 1, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x2048 : Shape := ⟨2, ![1024, 2048]⟩
abbrev S32x4x2048 : Shape := ⟨3, ![32, 4, 2048]⟩
abbrev S32x4x512 : Shape := ⟨3, ![32, 4, 512]⟩
abbrev S32x15x512 : Shape := ⟨3, ![32, 15, 512]⟩
abbrev S32x19x512 : Shape := ⟨3, ![32, 19, 512]⟩
abbrev S1x128x512 : Shape := ⟨3, ![1, 128, 512]⟩

abbrev nBuf : Space → Nat
  | .hbm => 50
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S1x1024, .f32⟩
  | .hbm, ⟨3, _⟩ => ⟨S1x1024x2048, .f32⟩
  | .hbm, ⟨4, _⟩ => ⟨S1x32x15x512, .f32⟩
  | .hbm, ⟨5, _⟩ => ⟨S32x1024, .f32⟩
  | .hbm, ⟨6, _⟩ => ⟨S32x1x1024, .f32⟩
  | .hbm, ⟨7, _⟩ => ⟨S32x1024, .f32⟩
  | .hbm, ⟨8, _⟩ => ⟨S32x1x1024, .f32⟩
  | .hbm, ⟨9, _⟩ => ⟨S1024, .f32⟩
  | .hbm, ⟨10, _⟩ => ⟨S32x4x1024, .f32⟩
  | .hbm, ⟨11, _⟩ => ⟨S_, .f32⟩
  | .hbm, ⟨12, _⟩ => ⟨S32x4, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S_, .f32⟩
  | .hbm, ⟨18, _⟩ => ⟨S32x4x1, .f32⟩
  | .hbm, ⟨19, _⟩ => ⟨S32x4x1, .f32⟩
  | .hbm, ⟨20, _⟩ => ⟨S32x4x1, .f32⟩
  | .hbm, ⟨21, _⟩ => ⟨S32x4x1024, .f32⟩
  | .hbm, ⟨22, _⟩ => ⟨S32x4x1024, .f32⟩
  | .hbm, ⟨23, _⟩ => ⟨S1x1x1024, .f32⟩
  | .hbm, ⟨24, _⟩ => ⟨S32x4x1024, .f32⟩
  | .hbm, ⟨25, _⟩ => ⟨S32x4x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x4x1024, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S1024x2048, .f32⟩
  | .hbm, ⟨34, _⟩ => ⟨S32x4x2048, .f32⟩
  | .hbm, ⟨35, _⟩ => ⟨S32x4x512, .f32⟩
  | .hbm, ⟨36, _⟩ => ⟨S32x4x512, .f32⟩
  | .hbm, ⟨37, _⟩ => ⟨S32x4x512, .f32⟩
  | .hbm, ⟨38, _⟩ => ⟨S32x4x512, .f32⟩
  | .hbm, ⟨39, _⟩ => ⟨S32x15x512, .f32⟩
  | .hbm, ⟨40, _⟩ => ⟨S32x19x512, .f32⟩
  | .hbm, ⟨41, _⟩ => ⟨S_, .f32⟩
  | .hbm, ⟨42, _⟩ => ⟨S32x4x512, .f32⟩
  | .hbm, ⟨43, _⟩ => ⟨S32x4x512, .f32⟩
  | .hbm, ⟨44, _⟩ => ⟨S32x4x512, .bf16⟩
  | .hbm, ⟨45, _⟩ => ⟨S1x128x512, .bf16⟩
  | .hbm, ⟨46, _⟩ => ⟨S1x128x512, .f32⟩
  | .hbm, ⟨47, _⟩ => ⟨S1x128x512, .f32⟩
  | .hbm, ⟨48, _⟩ => ⟨S32x15x512, .f32⟩
  | .hbm, ⟨49, _⟩ => ⟨S1x32x15x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel4.lean ====
abbrev S16x1024 : Shape := ⟨2, ![16, 1024]⟩
abbrev S32x1024 : Shape := ⟨2, ![32, 1024]⟩
abbrev S1x1024x6144 : Shape := ⟨3, ![1, 1024, 6144]⟩
abbrev S1x6144 : Shape := ⟨2, ![1, 6144]⟩
abbrev S48x1024 : Shape := ⟨2, ![48, 1024]⟩
abbrev S48x6144 : Shape := ⟨2, ![48, 6144]⟩
abbrev S1x1024x1024 : Shape := ⟨3, ![1, 1024, 1024]⟩
abbrev S1x1024 : Shape := ⟨2, ![1, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S32x1024, .f32⟩
  | .hbm, ⟨2, _⟩ => ⟨S1x1024x6144, .f32⟩
  | .hbm, ⟨3, _⟩ => ⟨S1x6144, .f32⟩
  | .hbm, ⟨4, _⟩ => ⟨S48x1024, .f32⟩
  | .hbm, ⟨5, _⟩ => ⟨S48x6144, .f32⟩
  | .local _ .vmem, ⟨0, _⟩ => ⟨S48x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024, .f32⟩
  | .local _ .vmem, ⟨4, _⟩ => ⟨S1x1024, .f32⟩
  | .local _ .vmem, ⟨5, _⟩ => ⟨S48x1024, .f32⟩
  | .local _ .vmem, ⟨6, _⟩ => ⟨S48x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S32x1024 : Shape := ⟨2, ![32, 1024]⟩
abbrev S1x1024x6144 : Shape := ⟨3, ![1, 1024, 6144]⟩
abbrev S1x6144 : Shape := ⟨2, ![1, 6144]⟩
abbrev S48x1024 : Shape := ⟨2, ![48, 1024]⟩
abbrev S_ : Shape := ⟨0, ![]⟩
abbrev S1024x6144 : Shape := ⟨2, ![1024, 6144]⟩
abbrev S48x6144 : Shape := ⟨2, ![48, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S32x1024, .f32⟩
  | .hbm, ⟨2, _⟩ => ⟨S1x1024x6144, .f32⟩
  | .hbm, ⟨3, _⟩ => ⟨S1x6144, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S_, .f32⟩
  | .hbm, ⟨8, _⟩ => ⟨S48x1024, .f32⟩
  | .hbm, ⟨9, _⟩ => ⟨S48x1024, .f32⟩
  | .hbm, ⟨10, _⟩ => ⟨S_, .f32⟩
  | .hbm, ⟨11, _⟩ => ⟨S48x1024, .f32⟩
  | .hbm, ⟨12, _⟩ => ⟨S48x1024, .f32⟩
  | .hbm, ⟨13, _⟩ => ⟨S48x1024, .f32⟩
  | .hbm, ⟨14, _⟩ => ⟨S1024x6144, .f32⟩
  | .hbm, ⟨15, _⟩ => ⟨S48x6144, .f32⟩
  | .hbm, ⟨16, _⟩ => ⟨S6144, .f32⟩
  | .hbm, ⟨17, _⟩ => ⟨S1x6144, .f32⟩
  | .hbm, ⟨18, _⟩ => ⟨S48x6144, .f32⟩
  | .hbm, ⟨19, _⟩ => ⟨S48x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x2048x512 : Shape := ⟨3, ![16, 2048, 512]⟩
abbrev S16x1x6144 : Shape := ⟨3, ![16, 1, 6144]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S32x128 : Shape := ⟨2, ![32, 128]⟩
abbrev S1024x1024 : Shape := ⟨2, ![1024, 1024]⟩
abbrev S1024x4096 : Shape := ⟨2, ![1024, 4096]⟩
abbrev S4096x1024 : Shape := ⟨2, ![4096, 1024]⟩
abbrev S1x256x1024 : Shape := ⟨3, ![1, 256, 1024]⟩
abbrev S1x256x512 : Shape := ⟨3, ![1, 256, 512]⟩
abbrev S1x1x6144 : Shape := ⟨3, ![1, 1, 6144]⟩
abbrev S256x1024 : Shape := ⟨2, ![256, 1024]⟩
abbrev S1x1x1024 : Shape := ⟨3, ![1, 1, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x4096 : Shape := ⟨2, ![256, 4096]⟩

abbrev nBuf : Space → Nat
  | .hbm => 17
  | .vmem => 15
  | .smem => 1
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x1x6144, .f32⟩
  | .hbm, ⟨4, _⟩ => ⟨S1x1024, .f32⟩
  | .hbm, ⟨5, _⟩ => ⟨S1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S1024x1024, .f32⟩
  | .hbm, ⟨10, _⟩ => ⟨S1024x1024, .bf16⟩
  | .hbm, ⟨11, _⟩ => ⟨S1024x4096, .f32⟩
  | .hbm, ⟨12, _⟩ => ⟨S1024x4096, .bf16⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x4096, .bf16⟩
  | .local _ .vmem, ⟨12, _⟩ => ⟨S4096x1024, .bf16⟩
  | .local _ .vmem, ⟨13, _⟩ => ⟨S1x256x1024, .f32⟩
  | .local _ .vmem, ⟨14, _⟩ => ⟨S1x256x1024, .f32⟩
  | .local _ .smem, ⟨0, _⟩ => ⟨S32x128, .i32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16x2048x1024 : Shape := ⟨3, ![16, 2048, 1024]⟩
abbrev S16x2048x512 : Shape := ⟨3, ![16, 2048, 512]⟩
abbrev S16x1x6144 : Shape := ⟨3, ![16, 1, 6144]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S32x128 : Shape := ⟨2, ![32, 128]⟩
abbrev S16x1x4096 : Shape := ⟨3, ![16, 1, 4096]⟩
abbrev S16x1x1024 : Shape := ⟨3, ![16, 1, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4096 : Shape := ⟨2, ![1024, 4096]⟩
abbrev S16x2048x4096 : Shape := ⟨3, ![16, 2048, 4096]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x1x6144, .f32⟩
  | .hbm, ⟨4, _⟩ => ⟨S1x1024, .f32⟩
  | .hbm, ⟨5, _⟩ => ⟨S1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S32x128, .i32⟩
  | .hbm, ⟨10, _⟩ => ⟨S16x1x4096, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x2048x1024, .bf16⟩
  | .hbm, ⟨16, _⟩ => ⟨S16x2048x1024, .f32⟩
  | .hbm, ⟨17, _⟩ => ⟨S1024x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S1024x4096, .f32⟩
  | .hbm, ⟨47, _⟩ => ⟨S16x2048x4096, .f32⟩
  | .hbm, ⟨48, _⟩ => ⟨S_, .f32⟩
  | .hbm, ⟨49, _⟩ => ⟨S16x2048x4096, .f32⟩
  | .hbm, ⟨50, _⟩ => ⟨S16x2048x4096, .f32⟩
  | .hbm, ⟨51, _⟩ => ⟨S16x2048x4096, .f32⟩
  | .hbm, ⟨52, _⟩ => ⟨S4096x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x1, .f32⟩
  | .hbm, ⟨68, _⟩ => ⟨S16x2048x1024, .f32⟩
  | .hbm, ⟨69, _⟩ => ⟨S16x2048x1024, .f32⟩
  | .hbm, ⟨70, _⟩ => ⟨S1x1x1024, .f32⟩
  | .hbm, ⟨71, _⟩ => ⟨S16x2048x1024, .f32⟩
  | .hbm, ⟨72, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel6.lean ====
abbrev S1x32x15x512 : Shape := ⟨4, ![1, 32, 15, 512]⟩
abbrev S1x128x512 : Shape := ⟨3, ![1, 128, 512]⟩
abbrev S1x4x128x128 : Shape := ⟨4, ![1, 4, 128, 128]⟩
abbrev S1x512 : Shape := ⟨2, ![1, 512]⟩
abbrev S32x15x512 : Shape := ⟨3, ![32, 15, 512]⟩
abbrev S32x4x512 : Shape := ⟨3, ![32, 4, 512]⟩
abbrev S32x19x512 : Shape := ⟨3, ![32, 19, 512]⟩
abbrev S_ : Shape := ⟨0, ![]⟩
abbrev S32x24x512 : Shape := ⟨3, ![32, 24, 512]⟩
abbrev S1x768x512 : Shape := ⟨3, ![1, 768, 512]⟩
abbrev S4x128x128 : Shape := ⟨3, ![4, 128, 128]⟩
abbrev S1x256x512 : Shape := ⟨3, ![1, 256, 512]⟩
abbrev S1x16x512 : Shape := ⟨3, ![1, 16, 512]⟩
abbrev S16x512 : Shape := ⟨2, ![16, 512]⟩
abbrev S256x512 : Shape := ⟨2, ![256, 512]⟩
abbrev S272x512 : Shape := ⟨2, ![272, 512]⟩
abbrev S16x1 : Shape := ⟨2, ![16, 1]⟩
abbrev S272x128 : Shape := ⟨2, ![272, 128]⟩
abbrev S16x128 : Shape := ⟨2, ![16, 128]⟩
abbrev S240x128 : Shape := ⟨2, ![240, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 17
  | .vmem => 8
  | .smem => 0
  | _ => 0

abbrev bufTy : (tb : Table) → Fin (tcTables nBuf tb) → BufTy
  | .hbm, ⟨0, _⟩ => ⟨S1x32x15x512, .f32⟩
  | .hbm, ⟨1, _⟩ => ⟨S1x128x512, .f32⟩
  | .hbm, ⟨2, _⟩ => ⟨S1x4x128x128, .f32⟩
  | .hbm, ⟨3, _⟩ => ⟨S1x512, .f32⟩
  | .hbm, ⟨4, _⟩ => ⟨S32x15x512, .f32⟩
  | .hbm, ⟨5, _⟩ => ⟨S32x4x512, .f32⟩
  | .hbm, ⟨6, _⟩ => ⟨S32x19x512, .f32⟩
  | .hbm, ⟨7, _⟩ => ⟨S_, .i32⟩
  | .hbm, ⟨8, _⟩ => ⟨S_, .f32⟩
  | .hbm, ⟨9, _⟩ => ⟨S32x24x512, .f32⟩
  | .hbm, ⟨10, _⟩ => ⟨S1x768x512, .f32⟩
  | .hbm, ⟨11, _⟩ => ⟨S4x128x128, .f32⟩
  | .hbm, ⟨12, _⟩ => ⟨S4x128x128, .bf16⟩
  | .hbm, ⟨13, _⟩ => ⟨S1x768x512, .bf16⟩
  | .hbm, ⟨14, _⟩ => ⟨S32x24x512, .bf16⟩
  | .hbm, ⟨15, _⟩ => ⟨S32x4x512, .bf16⟩
  | .hbm, ⟨16, _⟩ => ⟨S1x128x512, .bf16⟩
  | .local _ .vmem, ⟨0, _⟩ => ⟨S1x256x512, .f32⟩
  | .local _ .vmem, ⟨1, _⟩ => ⟨S1x256x512, .f32⟩
  | .local _ .vmem, ⟨2, _⟩ => ⟨S1x16x512, .f32⟩
  | .local _ .vmem, ⟨3, _⟩ => ⟨S1x16x512, .f32⟩
  | .local _ .vmem, ⟨4, _⟩ => ⟨S4x128x128, .bf16⟩
  | .local _ .vmem, ⟨5, _⟩ => ⟨S1x512, .f32⟩
  | .local _ .vmem, ⟨6, _⟩ => ⟨S1x256x512, .bf16⟩
  | .local _ .vmem, ⟨7, _⟩ => ⟨S1x256x512, .bf16⟩
  | _, _ => ⟨S1x32x15x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S1x32x15x512 : Shape := ⟨4, ![1, 32, 15, 512]⟩
abbrev S1x128x512 : Shape := ⟨3, ![1, 128, 512]⟩
abbrev S1x4x128x128 : Shape := ⟨4, ![1, 4, 128, 128]⟩
abbrev S1x512 : Shape := ⟨2, ![1, 512]⟩
abbrev S32x15x512 : Shape := ⟨3, ![32, 15, 512]⟩
abbrev S32x4x512 : Shape := ⟨3, ![32, 4, 512]⟩
abbrev S32x19x512 : Shape := ⟨3, ![32, 19, 512]⟩
abbrev S4x128x128 : Shape := ⟨3, ![4, 128, 128]⟩
abbrev S512 : Shape := ⟨1, ![512]⟩
abbrev S19 : Shape := ⟨1, ![19]⟩
abbrev S_ : Shape := ⟨0, ![]⟩
abbrev S32x19x128 : Shape := ⟨3, ![32, 19, 128]⟩
abbrev S1x19x1 : Shape := ⟨3, ![1, 19, 1]⟩
abbrev S32x19x1x128 : Shape := ⟨4, ![32, 19, 1, 128]⟩
abbrev S32x19x4x128 : Shape := ⟨4, ![32, 19, 4, 128]⟩
abbrev S4x128x32x19 : Shape := ⟨4, ![4, 128, 32, 19]⟩
abbrev S1x1x512 : Shape := ⟨3, ![1, 1, 512]⟩

abbrev nBuf : Space → Nat
  | .hbm => 87
  | .vmem => 0
  | .smem => 0
  | _ => 0

abbrev bufTy : (tb : Table) → Fin (tcTables nBuf tb) → BufTy
  | .hbm, ⟨0, _⟩ => ⟨S1x32x15x512, .f32⟩
  | .hbm, ⟨1, _⟩ => ⟨S1x128x512, .f32⟩
  | .hbm, ⟨2, _⟩ => ⟨S1x4x128x128, .f32⟩
  | .hbm, ⟨3, _⟩ => ⟨S1x512, .f32⟩
  | .hbm, ⟨4, _⟩ => ⟨S32x15x512, .f32⟩
  | .hbm, ⟨5, _⟩ => ⟨S32x4x512, .f32⟩
  | .hbm, ⟨6, _⟩ => ⟨S32x19x512, .f32⟩
  | .hbm, ⟨7, _⟩ => ⟨S4x128x128, .f32⟩
  | .hbm, ⟨8, _⟩ => ⟨S512, .f32⟩
  | .hbm, ⟨9, _⟩ => ⟨S19, .i32⟩
  | .hbm, ⟨10, _⟩ => ⟨S_, .i32⟩
  | .hbm, ⟨11, _⟩ => ⟨S19, .i32⟩
  | .hbm, ⟨12, _⟩ => ⟨S19, .i32⟩
  | .hbm, ⟨13, _⟩ => ⟨S32x19x128, .f32⟩
  | .hbm, ⟨14, _⟩ => ⟨S_, .f32⟩
  | .hbm, ⟨15, _⟩ => ⟨S_, .f32⟩
  | .hbm, ⟨16, _⟩ => ⟨S32x19x128, .f32⟩
  | .hbm, ⟨17, _⟩ => ⟨S_, .i32⟩
  | .hbm, ⟨18, _⟩ => ⟨S19, .i32⟩
  | .hbm, ⟨19, _⟩ => ⟨S19, .i32⟩
  | .hbm, ⟨20, _⟩ => ⟨S_, .i32⟩
  | .hbm, ⟨21, _⟩ => ⟨S19, .i32⟩
  | .hbm, ⟨22, _⟩ => ⟨S19, .i32⟩
  | .hbm, ⟨23, _⟩ => ⟨S19, .f32⟩
  | .hbm, ⟨24, _⟩ => ⟨S1x19x1, .f32⟩
  | .hbm, ⟨25, _⟩ => ⟨S32x19x128, .f32⟩
  | .hbm, ⟨26, _⟩ => ⟨S32x19x128, .f32⟩
  | .hbm, ⟨27, _⟩ => ⟨S32x19x128, .f32⟩
  | .hbm, ⟨28, _⟩ => ⟨S32x19x128, .f32⟩
  | .hbm, ⟨29, _⟩ => ⟨S_, .f32⟩
  | .hbm, ⟨30, _⟩ => ⟨S_, .f32⟩
  | .hbm, ⟨31, _⟩ => ⟨S32x19x128, .f32⟩
  | .hbm, ⟨32, _⟩ => ⟨S_, .i32⟩
  | .hbm, ⟨33, _⟩ => ⟨S19, .i32⟩
  | .hbm, ⟨34, _⟩ => ⟨S19, .i32⟩
  | .hbm, ⟨35, _⟩ => ⟨S_, .i32⟩
  | .hbm, ⟨36, _⟩ => ⟨S19, .i32⟩
  | .hbm, ⟨37, _⟩ => ⟨S19, .i32⟩
  | .hbm, ⟨38, _⟩ => ⟨S19, .f32⟩
  | .hbm, ⟨39, _⟩ => ⟨S1x19x1, .f32⟩
  | .hbm, ⟨40, _⟩ => ⟨S32x19x128, .f32⟩
  | .hbm, ⟨41, _⟩ => ⟨S32x19x128, .f32⟩
  | .hbm, ⟨42, _⟩ => ⟨S32x19x128, .f32⟩
  | .hbm, ⟨43, _⟩ => ⟨S32x19x128, .f32⟩
  | .hbm, ⟨44, _⟩ => ⟨S_, .f32⟩
  | .hbm, ⟨45, _⟩ => ⟨S_, .f32⟩
  | .hbm, ⟨46, _⟩ => ⟨S32x19x128, .f32⟩
  | .hbm, ⟨47, _⟩ => ⟨S_, .i32⟩
  | .hbm, ⟨48, _⟩ => ⟨S19, .i32⟩
  | .hbm, ⟨49, _⟩ => ⟨S19, .i32⟩
  | .hbm, ⟨50, _⟩ => ⟨S_, .i32⟩
  | .hbm, ⟨51, _⟩ => ⟨S19, .i32⟩
  | .hbm, ⟨52, _⟩ => ⟨S19, .i32⟩
  | .hbm, ⟨53, _⟩ => ⟨S19, .f32⟩
  | .hbm, ⟨54, _⟩ => ⟨S1x19x1, .f32⟩
  | .hbm, ⟨55, _⟩ => ⟨S32x19x128, .f32⟩
  | .hbm, ⟨56, _⟩ => ⟨S32x19x128, .f32⟩
  | .hbm, ⟨57, _⟩ => ⟨S32x19x128, .f32⟩
  | .hbm, ⟨58, _⟩ => ⟨S32x19x128, .f32⟩
  | .hbm, ⟨59, _⟩ => ⟨S_, .f32⟩
  | .hbm, ⟨60, _⟩ => ⟨S_, .f32⟩
  | .hbm, ⟨61, _⟩ => ⟨S32x19x128, .f32⟩
  | .hbm, ⟨62, _⟩ => ⟨S_, .i32⟩
  | .hbm, ⟨63, _⟩ => ⟨S19, .i32⟩
  | .hbm, ⟨64, _⟩ => ⟨S19, .i32⟩
  | .hbm, ⟨65, _⟩ => ⟨S_, .i32⟩
  | .hbm, ⟨66, _⟩ => ⟨S19, .i32⟩
  | .hbm, ⟨67, _⟩ => ⟨S19, .i32⟩
  | .hbm, ⟨68, _⟩ => ⟨S19, .f32⟩
  | .hbm, ⟨69, _⟩ => ⟨S1x19x1, .f32⟩
  | .hbm, ⟨70, _⟩ => ⟨S32x19x128, .f32⟩
  | .hbm, ⟨71, _⟩ => ⟨S32x19x128, .f32⟩
  | .hbm, ⟨72, _⟩ => ⟨S32x19x128, .f32⟩
  | .hbm, ⟨73, _⟩ => ⟨S32x19x1x128, .f32⟩
  | .hbm, ⟨74, _⟩ => ⟨S32x19x1x128, .f32⟩
  | .hbm, ⟨75, _⟩ => ⟨S32x19x1x128, .f32⟩
  | .hbm, ⟨76, _⟩ => ⟨S32x19x1x128, .f32⟩
  | .hbm, ⟨77, _⟩ => ⟨S32x19x4x128, .f32⟩
  | .hbm, ⟨78, _⟩ => ⟨S4x128x32x19, .f32⟩
  | .hbm, ⟨79, _⟩ => ⟨S32x19x4x128, .f32⟩
  | .hbm, ⟨80, _⟩ => ⟨S32x19x512, .f32⟩
  | .hbm, ⟨81, _⟩ => ⟨S1x1x512, .f32⟩
  | .hbm, ⟨82, _⟩ => ⟨S32x19x512, .f32⟩
  | .hbm, ⟨83, _⟩ => ⟨S32x19x512, .f32⟩
  | .hbm, ⟨84, _⟩ => ⟨S32x4x512, .f32⟩
  | .hbm, ⟨85, _⟩ => ⟨S1x128x512, .f32⟩
  | .hbm, ⟨86, _⟩ => ⟨S1x128x512, .bf16⟩
  | _, _ => ⟨S1x32x15x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Proof.Window.lean ====
module

public import Idealize.ShloMosaic.Lib.Pointwise

@[expose] public section

set_option maxRecDepth 16384

noncomputable section

open Idealize.ShloMosaic Idealize.ShloMosaic.TcCoe

namespace Cert.Window

/-- A left fold of additions is the starting value plus the sum of the summands. -/
theorem foldl_add {N : Nat} (f : Fin N → EReal) (v : EReal) :
    (List.finRange N).foldl (fun r n => r + f n) v = v + ∑ n : Fin N, f n := by
  rw [← List.sum_ofFn, List.ofFn_eq_map]
  generalize List.finRange N = l
  induction l generalizing v with
  | nil => simp
  | cons a l ih => rw [List.foldl_cons, ih, List.map_cons, List.sum_cons, add_assoc]

/-- The sum of the `w` terms of a sequence that end at term `n`. -/
def ws (f : Nat → EReal) (w n : Nat) : EReal := ∑ s ∈ Finset.range w, f (n - s)

/-- A window twice as long is the sum of two windows. -/
theorem ws_double (f : Nat → EReal) (w n : Nat) : ws f w n + ws f w (n - w) = ws f (w + w) n := by
  unfold ws
  rw [Finset.sum_range_add]
  simp only [Nat.sub_sub]

/-- A window sum over the middle axis of a rank-3 array, padded below by one less than the window:
    at row `r` the sum of the rows `r - (w - 1)` to `r` that exist. -/
theorem rows_sum {A B C w wm : Nat} (hw : wm + 1 = w) (x : FVec Ideal ⟨3, ![A, B, C]⟩ .f32)
    (init : FVec Ideal ⟨0, ![]⟩ .f32) (hi : init ix0 = 0)
    (h : (⟨3, ![A, B, C]⟩ : Shape).ReduceWindows (![1, w, 1] : Fin 3 → Nat) ![1, 1, 1] ![0, wm, 0] ![0, 0, 0] ⟨3, ![A, B, C]⟩)
    (hu : 0 < (⟨0, ![]⟩ : Shape).numel) (a : Fin A) (b : Fin B) (c : Fin C) :
    Host.reduceWindowAdd ![1, w, 1] ![1, 1, 1] ![0, wm, 0] ![0, 0, 0] x init h hu (ix3 a b c)
      = ∑ s : Fin w, if hs : wm ≤ b.val + s.val then x (ix3 a ⟨b.val + s.val - wm, by omega⟩ c) else 0 := by
  have hv : init (Shape.Idx.first hu) = 0 := (congrArg init (funext fun i => i.elim0)).trans hi
  unfold Host.reduceWindowAdd
  simp only [Ideal.hostReduceWindowAdd_def, Ideal.hostReduceWindowAdd, Host.reduceWindow, hv]
  rw [foldl_add (f := fun n => _), zero_add]
  refine ((⟨3, ![1, w, 1]⟩ : Shape).rowMajor.symm.sum_comp (fun i : (⟨3, ![1, w, 1]⟩ : Shape).Idx =>
    (if hin : ∀ d : Fin 3, (![0, wm, 0] : Fin 3 → Nat) d ≤ ((ix3 a b c : (⟨3, ![A, B, C]⟩ : Shape).Idx) d).val * (![1, 1, 1] : Fin 3 → Nat) d + (i d).val
        ∧ ((ix3 a b c : (⟨3, ![A, B, C]⟩ : Shape).Idx) d).val * (![1, 1, 1] : Fin 3 → Nat) d + (i d).val - (![0, wm, 0] : Fin 3 → Nat) d < (⟨3, ![A, B, C]⟩ : Shape).size d
      then x (fun d => ⟨_, (hin d).2⟩) else (0 : EReal)))).trans ?_
  rw [sum_idx3]
  simp only [Fin.sum_univ_one, Finset.univ_unique, Finset.sum_singleton]
  refine Finset.sum_congr rfl fun s _ => ?_
  by_cases hs : wm ≤ b.val + s.val
  · rw [dif_pos hs, dif_pos]
    · refine congrArg x (funext fun d => Fin.ext ?_)
      match d with
      | ⟨0, _⟩ => show a.val * 1 + 0 - 0 = a.val; omega
      | ⟨1, _⟩ => show b.val * 1 + s.val - wm = b.val + s.val - wm; omega
      | ⟨2, _⟩ => show c.val * 1 + 0 - 0 = c.val; omega
    · intro d
      have := a.isLt
      have := b.isLt
      have := c.isLt
      have := s.isLt
      match d with
      | ⟨0, _⟩ => show 0 ≤ a.val * 1 + 0 ∧ a.val * 1 + 0 - 0 < A; omega
      | ⟨1, _⟩ => show wm ≤ b.val * 1 + s.val ∧ b.val * 1 + s.val - wm < B; omega
      | ⟨2, _⟩ => show 0 ≤ c.val * 1 + 0 ∧ c.val * 1 + 0 - 0 < C; omega
  · rw [dif_neg hs, dif_neg]
    intro hin
    have h1 : wm ≤ b.val * 1 + s.val := (hin 1).1
    omega

end Cert.Window
-- ==== Proof.RefTerms.lean ====
module

public import proofs.«01_k».proof.Proof.Gen.ReferenceIdeal.Run
public import Idealize.ShloMosaic.Lib.Pointwise
public import proofs.«01_k».proof.Proof.Window

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The reference's projection: the normalized and modulated rows times the input weights, all 2048 columns. -/
def PROJ (X : FVec Ideal S16x2048x1024 .f32) (M : FVec Ideal S16x1x6144 .f32) (g : FVec Ideal S1x1024 .f32) (W : FVec Ideal S1x1024x2048 .f32) : FVec Ideal S16x2048x2048 .f32 :=
  (Host.dotGeneral dot_S16x2048x1024_S1024x2048_S16x2048x2048_2_0_01_1_n_n none (addf (mulf (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ g shapeCasts_S1x1024_S1024)))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 1024] M slices_S16x1x6144_S16x1x1024_0_0_1024)))) (broadcastInDim S16x2048x1024 ![0, 1, 2] bcast_S16x1x1024_S16x2048x1024_0_1_2 (extractStridedSlice S16x1x1024 ![0, 0, 0] M slices_S16x1x6144_S16x1x1024_0_0_0))) (shapeCast _ W shapeCasts_S1x1024x2048_S1024x2048))

/-- The reference's queries: the first 512 columns, scaled. -/
def QREF (U : FVec Ideal S16x2048x2048 .f32) : FVec Ideal S16x2048x512 .bf16 :=
  truncf .bf16 (mulf (extractStridedSlice S16x2048x512 ![0, 0, 0] U slices_S16x2048x2048_S16x2048x512_0_0_0) (broadcastInDim S16x2048x512 ![] bcast_S_S16x2048x512 (constant S_ .f32 0x3E38AA3B#32))) bitsLt_bf16_f32

/-- The reference's keys: the next 512 columns. -/
def KREF (U : FVec Ideal S16x2048x2048 .f32) : FVec Ideal S16x2048x512 .f32 :=
  extractStridedSlice S16x2048x512 ![0, 0, 512] U slices_S16x2048x2048_S16x2048x512_0_0_512

/-- The reference's values: the next 512 columns. -/
def VREF (U : FVec Ideal S16x2048x2048 .f32) : FVec Ideal S16x2048x512 .f32 :=
  extractStridedSlice S16x2048x512 ![0, 0, 1024] U slices_S16x2048x2048_S16x2048x512_0_0_1024

/-- The reference's input of the pooling mixer: the last 512 columns. -/
def UREF (U : FVec Ideal S16x2048x2048 .f32) : FVec Ideal S16x2048x512 .f32 :=
  extractStridedSlice S16x2048x512 ![0, 0, 1536] U slices_S16x2048x2048_S16x2048x512_0_0_1536

/-- The reference's kept rows: the last 16 of each sequence. -/
def TREF (V : FVec Ideal S16x2048x512 .f32) : FVec Ideal S16x16x512 .f32 :=
  extractStridedSlice S16x16x512 ![0, 2032, 0] V slices_S16x2048x512_S16x16x512_0_2032_0

/-- The reference's difference of window mean and token, per group. -/
def DIFF (V : FVec Ideal S16x2048x512 .f32) : FVec Ideal S16x2048x4x128 .f32 :=
  ((concatenate S16x2048x4x128 2 [⟨S16x2048x1x128, ((broadcastInDim S16x2048x1x128 ![0, 1, 3] bcast_S16x2048x128_S16x2048x1x128_0_1_3 (subf (Host.divf (Host.reduceWindowAdd ![1, 2, 1] ![1, 1, 1] ![0, 1, 0] ![0, 0, 0] (extractStridedSlice S16x2048x128 ![0, 0, 0] V slices_S16x2048x512_S16x2048x128_0_0_0) (broadcastInDim S_ ![] bcast_S_S_ (constant S_ .f32 0x00000000#32)) reduceWindows_S16x2048x128_S16x2048x128_w1s1p0_0_w2s1p1_0_w1s1p0_0 h_S_) (broadcastInDim S16x2048x128 ![0, 1, 2] bcast_S1x2048x1_S16x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 2#32))))))) (extractStridedSlice S16x2048x128 ![0, 0, 0] V slices_S16x2048x512_S16x2048x128_0_0_0))))⟩, ⟨S16x2048x1x128, ((broadcastInDim S16x2048x1x128 ![0, 1, 3] bcast_S16x2048x128_S16x2048x1x128_0_1_3 (subf (Host.divf (Host.reduceWindowAdd ![1, 4, 1] ![1, 1, 1] ![0, 3, 0] ![0, 0, 0] (extractStridedSlice S16x2048x128 ![0, 0, 128] V slices_S16x2048x512_S16x2048x128_0_0_128) (broadcastInDim S_ ![] bcast_S_S_ (constant S_ .f32 0x00000000#32)) reduceWindows_S16x2048x128_S16x2048x128_w1s1p0_0_w4s1p3_0_w1s1p0_0 h_S_) (broadcastInDim S16x2048x128 ![0, 1, 2] bcast_S1x2048x1_S16x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 4#32))))))) (extractStridedSlice S16x2048x128 ![0, 0, 128] V slices_S16x2048x512_S16x2048x128_0_0_128))))⟩, ⟨S16x2048x1x128, ((broadcastInDim S16x2048x1x128 ![0, 1, 3] bcast_S16x2048x128_S16x2048x1x128_0_1_3 (subf (Host.divf (Host.reduceWindowAdd ![1, 8, 1] ![1, 1, 1] ![0, 7, 0] ![0, 0, 0] (extractStridedSlice S16x2048x128 ![0, 0, 256] V slices_S16x2048x512_S16x2048x128_0_0_256) (broadcastInDim S_ ![] bcast_S_S_ (constant S_ .f32 0x00000000#32)) reduceWindows_S16x2048x128_S16x2048x128_w1s1p0_0_w8s1p7_0_w1s1p0_0 h_S_) (broadcastInDim S16x2048x128 ![0, 1, 2] bcast_S1x2048x1_S16x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 8#32))))))) (extractStridedSlice S16x2048x128 ![0, 0, 256] V slices_S16x2048x512_S16x2048x128_0_0_256))))⟩, ⟨S16x2048x1x128, ((broadcastInDim S16x2048x1x128 ![0, 1, 3] bcast_S16x2048x128_S16x2048x1x128_0_1_3 (subf (Host.divf (Host.reduceWindowAdd ![1, 16, 1] ![1, 1, 1] ![0, 15, 0] ![0, 0, 0] (extractStridedSlice S16x2048x128 ![0, 0, 384] V slices_S16x2048x512_S16x2048x128_0_0_384) (broadcastInDim S_ ![] bcast_S_S_ (constant S_ .f32 0x00000000#32)) reduceWindows_S16x2048x128_S16x2048x128_w1s1p0_0_w16s1p15_0_w1s1p0_0 h_S_) (broadcastInDim S16x2048x128 ![0, 1, 2] bcast_S1x2048x1_S16x2048x128_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 16#32))))))) (extractStridedSlice S16x2048x128 ![0, 0, 384] V slices_S16x2048x512_S16x2048x128_0_0_384))))⟩] concatenates_S16x2048x1x128_S16x2048x1x128_S16x2048x1x128_S16x2048x1x128_S16x2048x4x128_d2))

/-- The reference's pooling mixer over its input. -/
def POOL (V : FVec Ideal S16x2048x512 .f32) (Wp : FVec Ideal S1x4x128x128 .f32) (sc : FVec Ideal S1x512 .f32) : FVec Ideal S16x2048x512 .bf16 :=
  truncf .bf16 (mulf (shapeCast _ (transpose S16x2048x4x128 [2, 3, 0, 1] (Host.dotGeneral dot_S4x128x128_S16x2048x4x128_S4x128x16x2048_1_3_2_01_0_2 none (shapeCast _ Wp shapeCasts_S1x4x128x128_S4x128x128) (DIFF V)) transposes_S4x128x16x2048_S16x2048x4x128_2_3_0_1) shapeCasts_S16x2048x4x128_S16x2048x512) (broadcastInDim S16x2048x512 ![0, 1, 2] bcast_S1x1x512_S16x2048x512_0_1_2 (broadcastInDim S1x1x512 ![2] bcast_S512_S1x1x512_2 (shapeCast _ sc shapeCasts_S1x512_S512)))) bitsLt_bf16_f32

end Cert.ReferenceIdeal.Value
-- ==== Proof.Proj.lean ====
module

public import proofs.«01_k».proof.Proof.Gen.KernelIdeal.Value
public import Idealize.ShloMosaic.Lib.Pipeline.ValueKit
public import Idealize.ShloMosaic.Lib.Claim
public import proofs.«01_k».proof.Proof.RefTerms

@[expose] public section

set_option maxRecDepth 16384

noncomputable section

open Idealize.ShloMosaic Idealize.ShloMosaic.TcCoe Idealize.SL.Sem
open Idealize.ShloMosaic.Pipeline (Dat)

namespace Cert.KernelIdeal.Proj

open Cert.KernelIdeal Cert.KernelIdeal.Gen
open Cert.ReferenceIdeal.Value (PROJ QREF KREF VREF UREF TREF POOL)

variable (m : (ℓ : Loc nD τ sig) → Buf (Elt Ideal) ℓ)

/-- The block index of every window at every grid point. -/
theorem idx : ∀ t : Fin cfg0.N, win0_0.index t = ![t.val / 2, t.val % 2, 0] ∧ win0_1.index t = ![t.val / 2, 0, 0]
    ∧ win0_2.index t = ![0, 0] ∧ win0_3.index t = ![0, 0] ∧ win0_4.index t = ![0, 0, 0] ∧ win0_5.index t = ![0, 0]
    ∧ win0_6.index t = ![t.val / 2, t.val % 2, 0] ∧ win0_7.index t = ![t.val / 2, t.val % 2, 0]
    ∧ win0_8.index t = ![t.val / 2, t.val % 2, 0] ∧ win0_9.index t = ![t.val / 2, t.val % 2, 0]
    ∧ win0_10.index t = ![t.val / 2, 0, 0] ∧ t.val / 2 < 16 :=
  (by decide +kernel : ∀ t : Fin grid0.N, _)

/-- The projection of the launch's arguments. -/
abbrev U (c : Dev nD) : FVec Ideal Cert.ReferenceIdeal.S16x2048x2048 .f32 :=
  PROJ (m ((c : Thread nD τ).loc main_arg0)) (m ((c : Thread nD τ).loc main_arg1)) (m ((c : Thread nD τ).loc main_arg2)) (m ((c : Thread nD τ).loc main_arg3))

/-- The pooling input of one tile: what the body computes from the blocks of grid point `t`. -/
def uTile (c : Dev nD) (t : Fin cfg0.N) : FVec Ideal S1024x512 .f32 :=
  k0_pay6 (iblk m c 0 t)
        (View.ld (show Vec Ideal S1x1x6144 .f32 from iblk m c 1 t) (Rect.unit (s := S1x1x6144) ![0, 0, 0] ![1, 1, 1024] inb_S1x1x6144_S1x1x1024_0_0_0))
        (View.ld (show Vec Ideal S1x1x6144 .f32 from iblk m c 1 t) (Rect.unit (s := S1x1x6144) ![0, 0, 1024] ![1, 1, 1024] inb_S1x1x6144_S1x1x1024_0_0_1024)) (iblk m c 2 t)
        (View.ld (show Vec Ideal S1024x2048 .bf16 from iblk m c 3 t) (Rect.unit (s := S1024x2048) ![0, 1536] ![1024, 512] inb_S1024x2048_S1024x512_0_1536))

/-- The query, key and value columns of one tile. -/
def qkvTile (c : Dev nD) (t : Fin cfg0.N) : FVec Ideal S1024x1536 .f32 :=
  k0_pay7 (iblk m c 0 t)
        (View.ld (show Vec Ideal S1x1x6144 .f32 from iblk m c 1 t) (Rect.unit (s := S1x1x6144) ![0, 0, 0] ![1, 1, 1024] inb_S1x1x6144_S1x1x1024_0_0_0))
        (View.ld (show Vec Ideal S1x1x6144 .f32 from iblk m c 1 t) (Rect.unit (s := S1x1x6144) ![0, 0, 1024] ![1, 1, 1024] inb_S1x1x6144_S1x1x1024_0_0_1024)) (iblk m c 2 t)
        (View.ld (show Vec Ideal S1024x2048 .bf16 from iblk m c 3 t) (Rect.unit (s := S1024x2048) ![0, 0] ![1024, 1536] inb_S1024x2048_S1024x1536_0_0))

/-- The tile's pooling input is the projection's last 512 columns at the tile's rows. -/
theorem uTile_at (c : Dev nD) (t : Fin cfg0.N) (p : Fin 1024) (j : Fin 512) (b : Fin 16) (r : Fin 2048) (k : Fin 512)
    (hb : b.val = t.val / 2) (hr : r.val = t.val % 2 * 1024 + p.val) (hk : k.val = j.val) :
    uTile m c t (ix2 p j) = UREF (U m c) (ix3 b r k) := by
  pointwise [uTile, k0_pay6, k0_pay5, UREF, PROJ]
  simp only [mul_assoc]
  blk_point [iblk, V, idx t]

/-- The tile's query, key and value columns are the projection's first 1536 columns at the tile's rows. -/
theorem qkvTile_at (c : Dev nD) (t : Fin cfg0.N) (p : Fin 1024) (j : Fin 1536) (b : Fin 16) (r : Fin 2048) (k : Fin 2048)
    (hb : b.val = t.val / 2) (hr : r.val = t.val % 2 * 1024 + p.val) (hk : k.val = j.val) :
    qkvTile m c t (ix2 p j) = U m c (ix3 b r k) := by
  pointwise [qkvTile, k0_pay7, k0_pay5, U, PROJ]
  simp only [mul_assoc]
  blk_point [iblk, V, idx t]

/-- The keys' array after the run. -/
theorem keys_final (c : Dev nD) : (dats m 0 c).arrAt 7 (cfgs 0).N = KREF (U m c) := by
  refine (dats m 0 c).arrAt_eq_of_covers 7 _ (by decide +kernel) fun t hf y => ?_
  have key : k0_pay9 (qkvTile m c t) y = KREF (U m c) (((cfg0.win 7).blk t).view.emb y) := by
    pointwise [k0_pay9, KREF]
    refine qkvTile_at m c t _ _ _ _ _ ?_ ?_ ?_ <;> blk_simp [idx t] <;> (try omega)
  blk_simp
  rw [after0_7]
  by_cases h : t.val % 2 = 0
  · rw [outsAt0_A m c t h]
    frame_out
    exact key
  · rw [outsAt0_B m c t h]
    frame_out
    exact key

/-- The values' array after the run. -/
theorem values_final (c : Dev nD) : (dats m 0 c).arrAt 8 (cfgs 0).N = VREF (U m c) := by
  refine (dats m 0 c).arrAt_eq_of_covers 8 _ (by decide +kernel) fun t hf y => ?_
  have key : k0_pay10 (qkvTile m c t) y = VREF (U m c) (((cfg0.win 8).blk t).view.emb y) := by
    pointwise [k0_pay10, VREF]
    refine qkvTile_at m c t _ _ _ _ _ ?_ ?_ ?_ <;> blk_simp [idx t] <;> (try omega)
  blk_simp
  rw [after0_8]
  by_cases h : t.val % 2 = 0
  · rw [outsAt0_A m c t h]
    frame_out
    exact key
  · rw [outsAt0_B m c t h]
    frame_out
    exact key

/-- The queries' array after the run. -/
theorem queries_final (c : Dev nD) : (dats m 0 c).arrAt 6 (cfgs 0).N = QREF (U m c) := by
  refine (dats m 0 c).arrAt_eq_of_covers 6 _ (by decide +kernel) fun t hf y => ?_
  have key : k0_pay8 (qkvTile m c t) y = QREF (U m c) (((cfg0.win 6).blk t).view.emb y) := by
    pointwise [k0_pay8, QREF]
    refine congrArg (· * _) (qkvTile_at m c t _ _ _ _ _ ?_ ?_ ?_) <;> blk_simp [idx t] <;> (try omega)
  blk_simp
  rw [after0_6]
  by_cases h : t.val % 2 = 0
  · rw [outsAt0_A m c t h]
    frame_out
    exact key
  · rw [outsAt0_B m c t h]
    frame_out
    exact key

/-- The array of each sequence's last rows after the run: it is written back at the second tile of a sequence. -/
theorem tail_final (c : Dev nD) : (dats m 0 c).arrAt 10 (cfgs 0).N = TREF (UREF (U m c)) := by
  refine (dats m 0 c).arrAt_eq_of_covers 10 _ (by decide +kernel) fun t hf y => ?_
  have h1 := (flush0_10 t).mp hf
  have key : k0_pay3 (uTile m c t) y = TREF (UREF (U m c)) (((cfg0.win 10).blk t).view.emb y) := by
    pointwise [k0_pay3, TREF]
    refine uTile_at m c t _ _ _ _ _ ?_ ?_ ?_ <;> blk_simp [idx t] <;> (try omega)
    show 2032 + (y 1).val = t.val % 2 * 1024 + (1008 + (y 1).val)
    omega
  blk_simp
  rw [after0_10, outsAt0_B m c t (by omega)]
  frame_out
  exact key

/-- What the first tile of a sequence leaves in the carried buffer: the last 16 rows of its pooling input. -/
theorem carried_at (c : Dev nD) (t : Fin cfg0.N) (h : t.val % 2 = 0) (p : Fin 16) (j : Fin 512) :
    (show FVec Ideal S16x512 .f32 from (outsAt0 m c t.val t.isLt).2.2.2.2.2) (ix2 p j) = uTile m c t (ix2 ⟨1008 + p.val, by omega⟩ j) := by
  rw [outsAt0_A m c t h]
  have key : k0_pay2 (uTile m c t) (ix2 p j) = uTile m c t (ix2 ⟨1008 + p.val, by omega⟩ j) := by
    pointwise [k0_pay2]
  frame_out
  exact key

end Cert.KernelIdeal.Proj
-- ==== Proof.PoolRef.lean ====
module

public import proofs.«01_k».proof.Proof.RefTerms

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- Row `n - 16` of a sequence's column, and zero where there is no such row. -/
def row (V : FVec Ideal S16x2048x512 .f32) (b : Fin 16) (j : Fin 512) (n : Nat) : EReal :=
  if h : 16 ≤ n ∧ n - 16 < 2048 then V (ix3 b ⟨n - 16, h.2⟩ j) else 0

/-- The sum of the `w` rows that end at row `n - 16`. -/
def wsum (V : FVec Ideal S16x2048x512 .f32) (b : Fin 16) (j : Fin 512) (w n : Nat) : EReal :=
  ∑ s ∈ Finset.range w, row V b j (n - s)

/-- A window twice as long is the sum of two windows. -/
theorem wsum_double (V : FVec Ideal S16x2048x512 .f32) (b : Fin 16) (j : Fin 512) (w n : Nat) :
    wsum V b j w n + wsum V b j w (n - w) = wsum V b j (w + w) n := by
  unfold wsum
  rw [Finset.sum_range_add]
  simp only [Nat.sub_sub]

/-- The window sum as the reference's padded window states it. -/
theorem window_eq (V : FVec Ideal S16x2048x512 .f32) (b : Fin 16) (j : Fin 512) (r : Fin 2048) {w wm : Nat} (hw : wm + 1 = w) (h16 : w ≤ 16) :
    (∑ s : Fin w, if hs : wm ≤ r.val + s.val then V (ix3 b ⟨r.val + s.val - wm, by omega⟩ j) else 0) = wsum V b j w (r.val + 16) := by
  have e : ∀ s : Fin w, (if hs : wm ≤ r.val + s.val then V (ix3 b ⟨r.val + s.val - wm, by omega⟩ j) else (0 : EReal))
      = row V b j (r.val + 16 - (w - 1 - s.val)) := fun s => by
    unfold row
    by_cases hs : wm ≤ r.val + s.val
    · rw [dif_pos hs, dif_pos (by omega)]
      congr 3
      omega
    · rw [dif_neg hs, dif_neg (by omega)]
  rw [Finset.sum_congr rfl fun s _ => e s, Fin.sum_univ_eq_sum_range (fun s => row V b j (r.val + 16 - (w - 1 - s))) w]
  exact Finset.sum_range_reflect (fun s => row V b j (r.val + 16 - s)) w

/-- The number of rows in the window that ends at row `r`, as the reference counts it. -/
def cnt (w : BitVec 32) (r : Nat) : EReal := ((IntOp.minsi (IntOp.addi (BitVec.ofNat 32 r) 1#32) w).toInt : ℝ)

/-- The reference's pooling mixer, read at a column of group `g`. -/
theorem POOL_at (V : FVec Ideal S16x2048x512 .f32) (Wp : FVec Ideal S1x4x128x128 .f32) (sc : FVec Ideal S1x512 .f32)
    (b : Fin 16) (r : Fin 2048) (g : Fin 4) (c : Fin 128) :
    POOL V Wp sc (ix3 b r ⟨g.val * 128 + c.val, by omega⟩)
      = (∑ k : Fin 128, Wp (ix4 0 g k c) * DIFF V (ix4 b r g k)) * sc (ix2 0 ⟨g.val * 128 + c.val, by omega⟩) := by
  pointwise [POOL]

/-- Group 0 of the reference's differences: windows of 2 rows. -/
theorem DIFF_0 (V : FVec Ideal S16x2048x512 .f32) (b : Fin 16) (r : Fin 2048) (k : Fin 128) :
    DIFF V (ix4 b r 0 k) = Ideal.div (wsum V b ⟨0 + k.val, by omega⟩ 2 (r.val + 16)) (cnt 2#32 r.val) - V (ix3 b r ⟨0 + k.val, by omega⟩) := by
  rw [← window_eq V b ⟨0 + k.val, by omega⟩ r (w := 2) rfl (by omega)]
  pointwise [DIFF]
  rw [Cert.Window.rows_sum rfl _ _ (by pointwise)]
  pointwise [cnt]
  rfl

/-- Group 1 of the reference's differences: windows of 4 rows. -/
theorem DIFF_1 (V : FVec Ideal S16x2048x512 .f32) (b : Fin 16) (r : Fin 2048) (k : Fin 128) :
    DIFF V (ix4 b r 1 k) = Ideal.div (wsum V b ⟨128 + k.val, by omega⟩ 4 (r.val + 16)) (cnt 4#32 r.val) - V (ix3 b r ⟨128 + k.val, by omega⟩) := by
  rw [← window_eq V b ⟨128 + k.val, by omega⟩ r (w := 4) rfl (by omega)]
  pointwise [DIFF]
  rw [Cert.Window.rows_sum rfl _ _ (by pointwise)]
  pointwise [cnt]
  rfl

/-- Group 2 of the reference's differences: windows of 8 rows. -/
theorem DIFF_2 (V : FVec Ideal S16x2048x512 .f32) (b : Fin 16) (r : Fin 2048) (k : Fin 128) :
    DIFF V (ix4 b r 2 k) = Ideal.div (wsum V b ⟨256 + k.val, by omega⟩ 8 (r.val + 16)) (cnt 8#32 r.val) - V (ix3 b r ⟨256 + k.val, by omega⟩) := by
  rw [← window_eq V b ⟨256 + k.val, by omega⟩ r (w := 8) rfl (by omega)]
  pointwise [DIFF]
  rw [Cert.Window.rows_sum rfl _ _ (by pointwise)]
  pointwise [cnt]
  rfl

/-- Group 3 of the reference's differences: windows of 16 rows. -/
theorem DIFF_3 (V : FVec Ideal S16x2048x512 .f32) (b : Fin 16) (r : Fin 2048) (k : Fin 128) :
    DIFF V (ix4 b r 3 k) = Ideal.div (wsum V b ⟨384 + k.val, by omega⟩ 16 (r.val + 16)) (cnt 16#32 r.val) - V (ix3 b r ⟨384 + k.val, by omega⟩) := by
  rw [← window_eq V b ⟨384 + k.val, by omega⟩ r (w := 16) rfl (by omega)]
  pointwise [DIFF]
  rw [Cert.Window.rows_sum rfl _ _ (by pointwise)]
  pointwise [cnt]
  rfl

end Cert.ReferenceIdeal.Value
-- ==== Proof.PoolTile.lean ====
module

public import proofs.«01_k».proof.Proof.Gen.KernelIdeal.Value
public import Idealize.ShloMosaic.Lib.Pipeline.ValueKit
public import Idealize.ShloMosaic.Lib.Claim
public import proofs.«01_k».proof.Proof.PoolRef

@[expose] public section

set_option maxRecDepth 16384

noncomputable section

open Idealize.ShloMosaic Idealize.ShloMosaic.TcCoe Idealize.SL.Sem
open Idealize.ShloMosaic.Pipeline (Dat)

namespace Cert.KernelIdeal.PoolTile

open Cert.KernelIdeal Cert.KernelIdeal.Gen
open Cert.ReferenceIdeal.Value (POOL DIFF row wsum wsum_double cnt DIFF_0 DIFF_1 DIFF_2 DIFF_3 POOL_at)

/-- Adding a tile rotated down by the window's length doubles the window, on rows the rotation does not wrap to. -/
theorem roll (V : FVec Ideal S16x2048x512 .f32) (b : Fin 16) (o i w lo : Nat) (ho : o + 128 ≤ 512) (s : BitVec 32) (hs : s.toNat = w)
    (hw : w ≤ 8) (x : FVec Ideal S1040x128 .f32) (hr : S1040x128.Rotates 0 none)
    (hx : ∀ (e : Fin 1040) (c : Fin 128), lo ≤ e.val → x (ix2 e c) = wsum V b ⟨o + c.val, by omega⟩ w (i * 1024 + e.val))
    (e : Fin 1040) (c : Fin 128) (he : lo + w ≤ e.val) :
    addf x (dynamicRotate 0 s none x hr) (ix2 e c) = wsum V b ⟨o + c.val, by omega⟩ (w + w) (i * 1024 + e.val) := by
  have hb := e.isLt
  have e1 : (e.val + 1040 - s.toNat % 1040) % 1040 = e.val - w := by omega
  pointwise []
  rw [hx e c (by omega), hx _ c (by show lo ≤ (e.val + 1040 - s.toNat % 1040) % 1040; omega), ← wsum_double]
  have e2 : i * 1024 + (e.val + 1040 - s.toNat % 1040) % 1040 = i * 1024 + e.val - w := by omega
  show _ + wsum V b _ w (i * 1024 + (e.val + 1040 - s.toNat % 1040) % 1040) = _
  rw [e2]

/-- The tile with the carried rows in front: its row `e` is the sequence's row `1024 i + e - 16`. -/
theorem ext_at (V : FVec Ideal S16x2048x512 .f32) (b : Fin 16) (i : Nat) (hi : i < 2) (u : FVec Ideal S1024x512 .f32) (hist : FVec Ideal S16x512 .f32)
    (hu : ∀ (p : Fin 1024) (j : Fin 512), u (ix2 p j) = V (ix3 b ⟨i * 1024 + p.val, by omega⟩ j))
    (hh : ∀ (p : Fin 16) (j : Fin 512), hist (ix2 p j) = row V b j (i * 1024 + p.val))
    (e : Fin 1040) (j : Fin 512) : k0_pay11 u hist (ix2 e j) = wsum V b j 1 (i * 1024 + e.val) := by
  pointwise [k0_pay11]
  unfold wsum
  rw [Finset.sum_range_one, Nat.sub_zero]
  have he := e.isLt
  by_cases h : e.val < 16
  · rw [dif_pos h]
    exact hh ⟨e.val, h⟩ j
  · rw [dif_neg h, hu ⟨e.val - 16, by omega⟩ j]
    unfold row
    rw [dif_pos (by omega)]
    congr 3
    show i * 1024 + (e.val - 16) = i * 1024 + e.val - 16
    omega

/-- The rows' counts: the kernel's rows of tile `i`, as the reference counts them. -/
theorem count_row (i p : Nat) : IntOp.addi (IntOp.addi (IntOp.muli (BitVec.ofNat 32 i) 1024#32) (BitVec.ofNat 32 p)) 1#32
    = IntOp.addi (BitVec.ofNat 32 (i * 1024 + p)) 1#32 := by
  simp only [IntOp.addi, IntOp.muli, BitVec.ofNat_add, BitVec.ofNat_mul]

/-- From row 16 on, a window of at most 16 rows is full. -/
theorem count_full : ∀ (r : Fin 2048), 16 ≤ r.val → (IntOp.minsi (IntOp.addi (BitVec.ofNat 32 r.val) 1#32) 2#32).toInt = 2
    ∧ (IntOp.minsi (IntOp.addi (BitVec.ofNat 32 r.val) 1#32) 4#32).toInt = 4
    ∧ (IntOp.minsi (IntOp.addi (BitVec.ofNat 32 r.val) 1#32) 8#32).toInt = 8
    ∧ (IntOp.minsi (IntOp.addi (BitVec.ofNat 32 r.val) 1#32) 16#32).toInt = 16 := by
  decide +kernel

/-- A tile plus itself rotated down by one row. -/
def roll1 (x : FVec Ideal S1040x128 .f32) : FVec Ideal S1040x128 .f32 := addf x (dynamicRotate 0 1#32 none x rotates_S1040x128_d0)
/-- A tile plus itself rotated down by two rows. -/
def roll2 (x : FVec Ideal S1040x128 .f32) : FVec Ideal S1040x128 .f32 := addf x (dynamicRotate 0 2#32 none x rotates_S1040x128_d0)
/-- A tile plus itself rotated down by four rows. -/
def roll4 (x : FVec Ideal S1040x128 .f32) : FVec Ideal S1040x128 .f32 := addf x (dynamicRotate 0 4#32 none x rotates_S1040x128_d0)
/-- A tile plus itself rotated down by eight rows. -/
def roll8 (x : FVec Ideal S1040x128 .f32) : FVec Ideal S1040x128 .f32 := addf x (dynamicRotate 0 8#32 none x rotates_S1040x128_d0)

/-- The difference of window mean and token as the body computes it: a division in the first 16 rows, a constant factor below. -/
def meanDiff (i : Nat) (S : FVec Ideal S1040x128 .f32) (w cw : BitVec 32) (uo : FVec Ideal S1024x128 .f32) : FVec Ideal S1024x128 .bf16 :=
  truncf .bf16 (subf (concatenate S1024x128 0 [
      ⟨S16x128, divf (extractStridedSlice S16x128 ![16, 0] S slices_S1040x128_o16_0_S16x128)
        (broadcastTo S16x128 (sitofp .f32 (minsi (addi (k0_pay12 (BitVec.ofNat 32 i)) (broadcast S16x1 1#32)) (broadcast S16x1 w)) : FVec Ideal S16x1 .f32) broadcasts_S16x1_S16x128)⟩,
      ⟨S1008x128, mulf (extractStridedSlice S1008x128 ![32, 0] S slices_S1040x128_o32_0_S1008x128) (broadcast S1008x128 (Scalar.ofBits .f32 cw))⟩]
      concatenates_S16x128_S1008x128_S1024x128_d0) uo) bitsLt_bf16_f32

/-- The body's mean is the reference's division by the number of rows, where the constant is the reciprocal of a full window's length. -/
theorem meanDiff_at (i : Nat) (hi : i < 2) (S : FVec Ideal S1040x128 .f32) (w cw : BitVec 32) (n : ℤ) (hn : n ≠ 0)
    (hc : Ideal.ofBits .f32 cw = ((1 / (n : ℝ) : ℝ) : EReal))
    (hw : ∀ r : Fin 2048, 16 ≤ r.val → (IntOp.minsi (IntOp.addi (BitVec.ofNat 32 r.val) 1#32) w).toInt = n)
    (uo : FVec Ideal S1024x128 .f32) (p : Fin 1024) (k : Fin 128) :
    meanDiff i S w cw uo (ix2 p k) = Ideal.div (S (ix2 ⟨16 + p.val, by omega⟩ k)) (cnt w (i * 1024 + p.val)) - uo (ix2 p k) := by
  pointwise [meanDiff, k0_pay12]
  refine congrArg (· - _) ?_
  by_cases h : p.val < 16
  · rw [dif_pos h]
    refine congrArg (Ideal.div _) ?_
    show (((IntOp.minsi (IntOp.addi (IntOp.addi (IntOp.muli (BitVec.ofNat 32 i) 1024#32) (BitVec.ofNat 32 p.val)) 1#32) w).toInt : ℝ) : EReal) = cnt w (i * 1024 + p.val)
    rw [count_row]
    rfl
  · rw [dif_neg h, hc]
    have e := hw ⟨i * 1024 + p.val, by omega⟩ (by show 16 ≤ i * 1024 + p.val; omega)
    unfold cnt
    rw [e, Ideal.div_coe (by exact_mod_cast hn)]
    refine congrArg (· * _) (congrArg S ?_)
    refine (ix2_inj ..).2 ⟨Fin.ext ?_, rfl⟩
    show 32 + (p.val - 16) = 16 + p.val
    omega

/-- Four groups side by side. -/
def cat4 (a b c d : FVec Ideal S1024x128 .bf16) : FVec Ideal S1x1024x512 .bf16 :=
  shapeCast S1x1024x512 (concatenate S1024x512 1 [⟨S1024x128, a⟩, ⟨S1024x128, b⟩, ⟨S1024x128, c⟩, ⟨S1024x128, d⟩] concatenates_S1024x128_S1024x128_S1024x128_S1024x128_S1024x512_d1) shapeCasts_S1024x512_S1x1024x512

/-- What the body stores in the pooled block, from the tile's pooling input, the carried rows, the group maps and the scales. -/
def poolPay (i : Nat) (u : FVec Ideal S1024x512 .f32) (hist : FVec Ideal S16x512 .f32) (wp : FVec Ideal S4x128x128 .bf16) (sc : FVec Ideal S1x512 .f32) :
    FVec Ideal S1x1024x512 .bf16 :=
  k0_pay1
    (k0_pay14 (k0_pay13 (BitVec.ofNat 32 i) u hist)
      (View.ld (show Vec Ideal S4x128x128 .bf16 from wp) (Rect.unit (s := S4x128x128) ![0, 0, 0] ![1, 128, 128] inb_S4x128x128_S1x128x128_0_0_0))
      (View.ld (show Vec Ideal S1x512 .f32 from sc) (Rect.unit (s := S1x512) ![0, 0] ![1, 128] inb_S1x512_S1x128_0_0)))
    (k0_pay15 u (k0_pay11 u hist) (k0_pay12 (BitVec.ofNat 32 i))
      (View.ld (show Vec Ideal S4x128x128 .bf16 from wp) (Rect.unit (s := S4x128x128) ![1, 0, 0] ![1, 128, 128] inb_S4x128x128_S1x128x128_1_0_0))
      (View.ld (show Vec Ideal S1x512 .f32 from sc) (Rect.unit (s := S1x512) ![0, 128] ![1, 128] inb_S1x512_S1x128_0_128)))
    (k0_pay17 u (k0_pay12 (BitVec.ofNat 32 i)) (k0_pay16 (k0_pay11 u hist))
      (View.ld (show Vec Ideal S4x128x128 .bf16 from wp) (Rect.unit (s := S4x128x128) ![2, 0, 0] ![1, 128, 128] inb_S4x128x128_S1x128x128_2_0_0))
      (View.ld (show Vec Ideal S1x512 .f32 from sc) (Rect.unit (s := S1x512) ![0, 256] ![1, 128] inb_S1x512_S1x128_0_256)))
    (k0_pay18 (k0_pay11 u hist) (k0_pay12 (BitVec.ofNat 32 i)))
    (k0_pay19 u)
    (View.ld (show Vec Ideal S4x128x128 .bf16 from wp) (Rect.unit (s := S4x128x128) ![3, 0, 0] ![1, 128, 128] inb_S4x128x128_S1x128x128_3_0_0))
    (View.ld (show Vec Ideal S1x512 .f32 from sc) (Rect.unit (s := S1x512) ![0, 384] ![1, 128] inb_S1x512_S1x128_0_384))

/-- The stored block, group by group. -/
theorem poolPay_eq (i : Nat) (u : FVec Ideal S1024x512 .f32) (hist : FVec Ideal S16x512 .f32) (wp : FVec Ideal S4x128x128 .bf16) (sc : FVec Ideal S1x512 .f32) :
    poolPay i u hist wp sc = cat4
      (k0_pay14 (meanDiff i (roll1 (extractStridedSlice S1040x128 ![0, 0] (k0_pay11 u hist) slices_S1040x512_o0_0_S1040x128)) 2#32 0x3F000000#32 (extractStridedSlice S1024x128 ![0, 0] u slices_S1024x512_o0_0_S1024x128))
        (View.ld (show Vec Ideal S4x128x128 .bf16 from wp) (Rect.unit (s := S4x128x128) ![0, 0, 0] ![1, 128, 128] inb_S4x128x128_S1x128x128_0_0_0))
        (View.ld (show Vec Ideal S1x512 .f32 from sc) (Rect.unit (s := S1x512) ![0, 0] ![1, 128] inb_S1x512_S1x128_0_0)))
      (k0_pay14 (meanDiff i (roll2 (roll1 (extractStridedSlice S1040x128 ![0, 128] (k0_pay11 u hist) slices_S1040x512_o0_128_S1040x128))) 4#32 0x3E800000#32 (extractStridedSlice S1024x128 ![0, 128] u slices_S1024x512_o0_128_S1024x128))
        (View.ld (show Vec Ideal S4x128x128 .bf16 from wp) (Rect.unit (s := S4x128x128) ![1, 0, 0] ![1, 128, 128] inb_S4x128x128_S1x128x128_1_0_0))
        (View.ld (show Vec Ideal S1x512 .f32 from sc) (Rect.unit (s := S1x512) ![0, 128] ![1, 128] inb_S1x512_S1x128_0_128)))
      (k0_pay14 (meanDiff i (roll4 (roll2 (roll1 (extractStridedSlice S1040x128 ![0, 256] (k0_pay11 u hist) slices_S1040x512_o0_256_S1040x128)))) 8#32 0x3E000000#32 (extractStridedSlice S1024x128 ![0, 256] u slices_S1024x512_o0_256_S1024x128))
        (View.ld (show Vec Ideal S4x128x128 .bf16 from wp) (Rect.unit (s := S4x128x128) ![2, 0, 0] ![1, 128, 128] inb_S4x128x128_S1x128x128_2_0_0))
        (View.ld (show Vec Ideal S1x512 .f32 from sc) (Rect.unit (s := S1x512) ![0, 256] ![1, 128] inb_S1x512_S1x128_0_256)))
      (k0_pay14 (meanDiff i (roll8 (roll4 (roll2 (roll1 (extractStridedSlice S1040x128 ![0, 384] (k0_pay11 u hist) slices_S1040x512_o0_384_S1040x128))))) 16#32 0x3D800000#32 (extractStridedSlice S1024x128 ![0, 384] u slices_S1024x512_o0_384_S1024x128))
        (View.ld (show Vec Ideal S4x128x128 .bf16 from wp) (Rect.unit (s := S4x128x128) ![3, 0, 0] ![1, 128, 128] inb_S4x128x128_S1x128x128_3_0_0))
        (View.ld (show Vec Ideal S1x512 .f32 from sc) (Rect.unit (s := S1x512) ![0, 384] ![1, 128] inb_S1x512_S1x128_0_384))) := rfl

/-- The constants of the four windows. -/
theorem consts : Ideal.ofBits .f32 0x3F000000#32 = ((1 / ((2 : ℤ) : ℝ) : ℝ) : EReal) ∧ Ideal.ofBits .f32 0x3E800000#32 = ((1 / ((4 : ℤ) : ℝ) : ℝ) : EReal)
    ∧ Ideal.ofBits .f32 0x3E000000#32 = ((1 / ((8 : ℤ) : ℝ) : ℝ) : EReal) ∧ Ideal.ofBits .f32 0x3D800000#32 = ((1 / ((16 : ℤ) : ℝ) : ℝ) : EReal) := by
  refine ⟨?_, ?_, ?_, ?_⟩ <;> (simp [Ideal.ofBits, Ideal.ieee, -EReal.coe_mul]; try norm_num)

/-- The differences of one group at the tile's rows, from the tile's window sums and its tokens. -/
theorem meanDiff_wsum (V : FVec Ideal S16x2048x512 .f32) (b : Fin 16) (i : Nat) (hi : i < 2) (o wl lo : Nat) (ho : o + 128 ≤ 512) (hlo : lo ≤ 16)
    (S : FVec Ideal S1040x128 .f32) (w cw : BitVec 32) (n : ℤ) (hn : n ≠ 0)
    (hc : Ideal.ofBits .f32 cw = ((1 / (n : ℝ) : ℝ) : EReal))
    (hw : ∀ r : Fin 2048, 16 ≤ r.val → (IntOp.minsi (IntOp.addi (BitVec.ofNat 32 r.val) 1#32) w).toInt = n)
    (uo : FVec Ideal S1024x128 .f32)
    (hS : ∀ (e : Fin 1040) (c : Fin 128), lo ≤ e.val → S (ix2 e c) = wsum V b ⟨o + c.val, by omega⟩ wl (i * 1024 + e.val))
    (huo : ∀ (p : Fin 1024) (k : Fin 128), uo (ix2 p k) = V (ix3 b ⟨i * 1024 + p.val, by omega⟩ ⟨o + k.val, by omega⟩))
    (p : Fin 1024) (k : Fin 128) :
    meanDiff i S w cw uo (ix2 p k) = Ideal.div (wsum V b ⟨o + k.val, by omega⟩ wl (i * 1024 + p.val + 16)) (cnt w (i * 1024 + p.val))
      - V (ix3 b ⟨i * 1024 + p.val, by omega⟩ ⟨o + k.val, by omega⟩) := by
  rw [meanDiff_at i hi S w cw n hn hc hw uo p k, huo p k, hS ⟨16 + p.val, by omega⟩ k (by show lo ≤ 16 + p.val; omega)]
  have e : i * 1024 + (16 + p.val) = i * 1024 + p.val + 16 := by omega
  show Ideal.div (wsum V b _ wl (i * 1024 + (16 + p.val))) _ - _ = _
  rw [e]

section
variable (V : FVec Ideal S16x2048x512 .f32) (b : Fin 16) (i : Nat) (hi : i < 2) (u : FVec Ideal S1024x512 .f32) (hist : FVec Ideal S16x512 .f32)
    (hu : ∀ (p : Fin 1024) (j : Fin 512), u (ix2 p j) = V (ix3 b ⟨i * 1024 + p.val, by omega⟩ j))
    (hh : ∀ (p : Fin 16) (j : Fin 512), hist (ix2 p j) = row V b j (i * 1024 + p.val))
include hu hh

/-- The tile's columns of one group, each row a window of one. -/
theorem cols_at (o : Nat) (ho : o + 128 ≤ 512) (x : FVec Ideal S1040x128 .f32)
    (hx : ∀ (e : Fin 1040) (c : Fin 128), x (ix2 e c) = k0_pay11 u hist (ix2 e ⟨o + c.val, by omega⟩)) (e : Fin 1040) (c : Fin 128) (he : 0 ≤ e.val) :
    x (ix2 e c) = wsum V b ⟨o + c.val, by omega⟩ 1 (i * 1024 + e.val) :=
  (hx e c).trans (ext_at V b i hi u hist hu hh e _)

/-- The differences of group 0 at the tile's rows. -/
theorem diff0 (p : Fin 1024) (k : Fin 128) :
    meanDiff i (roll1 (extractStridedSlice S1040x128 ![0, 0] (k0_pay11 u hist) slices_S1040x512_o0_0_S1040x128)) 2#32 0x3F000000#32 (extractStridedSlice S1024x128 ![0, 0] u slices_S1024x512_o0_0_S1024x128) (ix2 p k)
      = DIFF V (ix4 b ⟨i * 1024 + p.val, by omega⟩ 0 k) := by
  have h1 := cols_at V b i hi u hist hu hh 0 (by omega) (extractStridedSlice S1040x128 ![0, 0] (k0_pay11 u hist) slices_S1040x512_o0_0_S1040x128) (fun e c => by pointwise [])
  have h2 := roll V b 0 i 1 0 (by omega) 1#32 rfl (by omega) _ rotates_S1040x128_d0 h1
  rw [DIFF_0]
  exact meanDiff_wsum V b i hi 0 2 1 (by omega) (by omega) _ _ _ 2 (by norm_num) consts.1 (fun r h => (count_full r h).1) _ h2
    (fun p k => by pointwise []; exact hu p _) p k

/-- The differences of group 1 at the tile's rows. -/
theorem diff1 (p : Fin 1024) (k : Fin 128) :
    meanDiff i (roll2 (roll1 (extractStridedSlice S1040x128 ![0, 128] (k0_pay11 u hist) slices_S1040x512_o0_128_S1040x128))) 4#32 0x3E800000#32 (extractStridedSlice S1024x128 ![0, 128] u slices_S1024x512_o0_128_S1024x128) (ix2 p k)
      = DIFF V (ix4 b ⟨i * 1024 + p.val, by omega⟩ 1 k) := by
  have h1 := cols_at V b i hi u hist hu hh 128 (by omega) (extractStridedSlice S1040x128 ![0, 128] (k0_pay11 u hist) slices_S1040x512_o0_128_S1040x128) (fun e c => by pointwise [])
  have h2 := roll V b 128 i 1 0 (by omega) 1#32 rfl (by omega) _ rotates_S1040x128_d0 h1
  have h4 := roll V b 128 i 2 1 (by omega) 2#32 rfl (by omega) _ rotates_S1040x128_d0 h2
  rw [DIFF_1]
  exact meanDiff_wsum V b i hi 128 4 3 (by omega) (by omega) _ _ _ 4 (by norm_num) consts.2.1 (fun r h => (count_full r h).2.1) _ h4
    (fun p k => by pointwise []; exact hu p _) p k

/-- The differences of group 2 at the tile's rows. -/
theorem diff2 (p : Fin 1024) (k : Fin 128) :
    meanDiff i (roll4 (roll2 (roll1 (extractStridedSlice S1040x128 ![0, 256] (k0_pay11 u hist) slices_S1040x512_o0_256_S1040x128)))) 8#32 0x3E000000#32 (extractStridedSlice S1024x128 ![0, 256] u slices_S1024x512_o0_256_S1024x128) (ix2 p k)
      = DIFF V (ix4 b ⟨i * 1024 + p.val, by omega⟩ 2 k) := by
  have h1 := cols_at V b i hi u hist hu hh 256 (by omega) (extractStridedSlice S1040x128 ![0, 256] (k0_pay11 u hist) slices_S1040x512_o0_256_S1040x128) (fun e c => by pointwise [])
  have h2 := roll V b 256 i 1 0 (by omega) 1#32 rfl (by omega) _ rotates_S1040x128_d0 h1
  have h4 := roll V b 256 i 2 1 (by omega) 2#32 rfl (by omega) _ rotates_S1040x128_d0 h2
  have h8 := roll V b 256 i 4 3 (by omega) 4#32 rfl (by omega) _ rotates_S1040x128_d0 h4
  rw [DIFF_2]
  exact meanDiff_wsum V b i hi 256 8 7 (by omega) (by omega) _ _ _ 8 (by norm_num) consts.2.2.1 (fun r h => (count_full r h).2.2.1) _ h8
    (fun p k => by pointwise []; exact hu p _) p k

/-- The differences of group 3 at the tile's rows. -/
theorem diff3 (p : Fin 1024) (k : Fin 128) :
    meanDiff i (roll8 (roll4 (roll2 (roll1 (extractStridedSlice S1040x128 ![0, 384] (k0_pay11 u hist) slices_S1040x512_o0_384_S1040x128))))) 16#32 0x3D800000#32 (extractStridedSlice S1024x128 ![0, 384] u slices_S1024x512_o0_384_S1024x128) (ix2 p k)
      = DIFF V (ix4 b ⟨i * 1024 + p.val, by omega⟩ 3 k) := by
  have h1 := cols_at V b i hi u hist hu hh 384 (by omega) (extractStridedSlice S1040x128 ![0, 384] (k0_pay11 u hist) slices_S1040x512_o0_384_S1040x128) (fun e c => by pointwise [])
  have h2 := roll V b 384 i 1 0 (by omega) 1#32 rfl (by omega) _ rotates_S1040x128_d0 h1
  have h4 := roll V b 384 i 2 1 (by omega) 2#32 rfl (by omega) _ rotates_S1040x128_d0 h2
  have h8 := roll V b 384 i 4 3 (by omega) 4#32 rfl (by omega) _ rotates_S1040x128_d0 h4
  have h16 := roll V b 384 i 8 7 (by omega) 8#32 rfl (by omega) _ rotates_S1040x128_d0 h8
  rw [DIFF_3]
  exact meanDiff_wsum V b i hi 384 16 15 (by omega) (by omega) _ _ _ 16 (by norm_num) consts.2.2.2 (fun r h => (count_full r h).2.2.2) _ h16
    (fun p k => by pointwise []; exact hu p _) p k

/-- The stored block at the tile's rows is the reference's pooling mixer there. -/
theorem poolPay_at (wp : FVec Ideal S4x128x128 .bf16) (sc : FVec Ideal S1x512 .f32) (Wp : FVec Ideal S1x4x128x128 .f32)
    (hwp : ∀ (g : Fin 4) (k c : Fin 128), wp (ix3 g k c) = Wp (ix4 0 g k c)) (p : Fin 1024) (g : Fin 4) (c : Fin 128) :
    poolPay i u hist wp sc (ix3 0 p ⟨g.val * 128 + c.val, by omega⟩)
      = POOL V Wp sc (ix3 b ⟨i * 1024 + p.val, by omega⟩ ⟨g.val * 128 + c.val, by omega⟩) := by
  rw [POOL_at, poolPay_eq]
  have d0 := diff0 V b i hi u hist hu hh p
  have d1 := diff1 V b i hi u hist hu hh p
  have d2 := diff2 V b i hi u hist hu hh p
  have d3 := diff3 V b i hi u hist hu hh p
  revert d0 d1 d2 d3
  generalize meanDiff i (roll1 _) _ _ _ = D0
  generalize meanDiff i (roll2 _) _ _ _ = D1
  generalize meanDiff i (roll4 _) _ _ _ = D2
  generalize meanDiff i (roll8 _) _ _ _ = D3
  intro d0 d1 d2 d3
  fin_cases g <;> pointwise [cat4, k0_pay14]
  · exact congrArg (· * _) (Finset.sum_congr rfl fun x _ => by rw [d0, hwp, mul_comm])
  · exact congrArg (· * _) (Finset.sum_congr rfl fun x _ => by rw [d1, hwp, mul_comm])
  · rw [dif_neg (by omega), dif_neg (by omega), dif_pos (by omega)]
    have e : 256 + c.val - 128 - 128 = c.val := by omega
    simp only [e, Fin.eta]
    exact congrArg (· * _) (Finset.sum_congr rfl fun x _ => by rw [d2, hwp, mul_comm])
  · rw [dif_neg (by omega), dif_neg (by omega), dif_neg (by omega)]
    have e : 384 + c.val - 128 - 128 - 128 = c.val := by omega
    simp only [e, Fin.eta]
    exact congrArg (· * _) (Finset.sum_congr rfl fun x _ => by rw [d3, hwp, mul_comm])
end

end Cert.KernelIdeal.PoolTile
-- ==== Proof.PoolFinal.lean ====
module

public import proofs.«01_k».proof.Proof.Proj
public import proofs.«01_k».proof.Proof.PoolTile

@[expose] public section

set_option maxRecDepth 16384

noncomputable section

open Idealize.ShloMosaic Idealize.ShloMosaic.TcCoe Idealize.SL.Sem
open Idealize.ShloMosaic.Pipeline (Dat)

namespace Cert.KernelIdeal.Proj

open Cert.KernelIdeal Cert.KernelIdeal.Gen
open Cert.ReferenceIdeal.Value (PROJ QREF KREF VREF UREF TREF POOL row)
open Cert.KernelIdeal.PoolTile

variable (m : (ℓ : Loc nD τ sig) → Buf (Elt Ideal) ℓ)

/-- The group maps' block is the launch's group maps. -/
theorem maps_at (c : Dev nD) (t : Fin cfg0.N) (g : Fin 4) (k d : Fin 128) :
    (show FVec Ideal S4x128x128 .bf16 from iblk m c 4 t) (ix3 g k d) = (show FVec Ideal S1x4x128x128 .f32 from m ((c : Thread nD τ).loc main_arg4)) (ix4 0 g k d) := by
  pointwise []
  blk_point [iblk, V, idx t]

/-- The scales' block is the launch's scales. -/
theorem scales_eq (c : Dev nD) (t : Fin cfg0.N) :
    (show FVec Ideal S1x512 .f32 from iblk m c 5 t) = (show FVec Ideal S1x512 .f32 from m ((c : Thread nD τ).loc main_arg5)) := by
  blk_ext! [iblk, V, idx t]

/-- The stored block at row `y1` and column `y2` is the pooled array at the tile's row of its batch. -/
theorem pool_point_at (c : Dev nD) (t : Fin cfg0.N) (hist : FVec Ideal S16x512 .f32)
    (hh : ∀ (p : Fin 16) (j : Fin 512), hist (ix2 p j) = row (UREF (U m c)) ⟨t.val / 2, by have := (idx t).2.2.2.2.2.2.2.2.2.2.2; omega⟩ j (t.val % 2 * 1024 + p.val))
    (y0 : Fin 1) (y1 : Fin 1024) (y2 : Fin 512) (b : Fin 16) (r : Fin 2048) (k : Fin 512)
    (hb : b.val = t.val / 2) (hr : r.val = t.val % 2 * 1024 + y1.val) (hk : k.val = y2.val) :
    poolPay (t.val % 2) (uTile m c t) hist (iblk m c 4 t) (show FVec Ideal S1x512 .f32 from m ((c : Thread nD τ).loc main_arg5)) (ix3 y0 y1 y2)
      = POOL (UREF (U m c)) (m ((c : Thread nD τ).loc main_arg4)) (m ((c : Thread nD τ).loc main_arg5)) (ix3 b r k) := by
  have hb' : t.val / 2 < 16 := hb ▸ b.isLt
  have h0 : y0 = 0 := Fin.ext (by omega)
  have hbe : b = ⟨t.val / 2, hb'⟩ := Fin.ext hb
  have hre : r = ⟨t.val % 2 * 1024 + y1.val, by omega⟩ := Fin.ext hr
  have hy : y2 = ⟨(⟨y2.val / 128, by omega⟩ : Fin 4).val * 128 + (⟨y2.val % 128, by omega⟩ : Fin 128).val, by show y2.val / 128 * 128 + y2.val % 128 < 512; omega⟩ :=
    Fin.ext (by show y2.val = y2.val / 128 * 128 + y2.val % 128; omega)
  have hke : k = y2 := Fin.ext hk
  subst h0 hke
  rw [hbe, hre, hy]
  exact poolPay_at (UREF (U m c)) ⟨t.val / 2, hb'⟩ (t.val % 2) (by omega) (uTile m c t) hist
    (fun p j => uTile_at m c t p j _ _ _ rfl rfl rfl) hh (iblk m c 4 t) _ _ (maps_at m c t) y1 ⟨k.val / 128, by omega⟩ ⟨k.val % 128, by omega⟩

/-- What the body stores in the pooled block, where the carried rows are the sequence's rows before the tile. -/
theorem pool_point (c : Dev nD) (t : Fin cfg0.N) (hist : FVec Ideal S16x512 .f32)
    (hh : ∀ (p : Fin 16) (j : Fin 512), hist (ix2 p j) = row (UREF (U m c)) ⟨t.val / 2, by have := (idx t).2.2.2.2.2.2.2.2.2.2.2; omega⟩ j (t.val % 2 * 1024 + p.val))
    (y : S1x1024x512.Idx) :
    poolPay (t.val % 2) (uTile m c t) hist (iblk m c 4 t) (iblk m c 5 t) y
      = POOL (UREF (U m c)) (m ((c : Thread nD τ).loc main_arg4)) (m ((c : Thread nD τ).loc main_arg5)) (((cfg0.win 9).blk t).view.emb y) := by
  have hb : t.val / 2 < 16 := (idx t).2.2.2.2.2.2.2.2.2.2.2
  refine (congrArg (fun s => poolPay (t.val % 2) (uTile m c t) hist (iblk m c 4 t) s y) (scales_eq m c t)).trans ?_
  idx_vars y
  refine pool_point_at m c t hist hh y0 y1 y2 _ _ _ ?_ ?_ ?_ <;> blk_simp [idx t]
  · exact Eq.refl (t.val % 2 * 1024 + y1.val)
  · show 0 * 512 + y2.val = y2.val
    omega

/-- The pooled array after the run. -/
theorem pool_final (c : Dev nD) : (dats m 0 c).arrAt 9 (cfgs 0).N
    = POOL (UREF (U m c)) (m ((c : Thread nD τ).loc main_arg4)) (m ((c : Thread nD τ).loc main_arg5)) := by
  refine (dats m 0 c).arrAt_eq_of_covers 9 _ (by decide +kernel) fun t hf y => ?_
  have hc : ((grid0.coords t) 1).val = t.val % 2 := (by decide +kernel : ∀ t : Fin grid0.N, ((grid0.coords t) 1).val = t.val % 2) t
  blk_simp
  rw [after0_9]
  by_cases h : t.val % 2 = 0
  · rw [outsAt0_A m c t h]
    frame_out
    refine Eq.trans ?_ (pool_point m c t k0_pay4 ?_ y)
    · rw [hc]; rfl
    · intro p j
      pointwise [k0_pay4]
      unfold row
      rw [dif_neg (by omega)]
  · rw [outsAt0_B m c t h]
    frame_out
    refine Eq.trans ?_ (pool_point m c t (outsAt0 m c (t.val - 1) (Nat.lt_of_le_of_lt (Nat.sub_le _ _) t.isLt)).2.2.2.2.2 ?_ y)
    · rw [hc]
      exact congrFun (congrArg (fun h => poolPay (t.val % 2) (uTile m c t) h (iblk m c 4 t) (iblk m c 5 t)) (Memref.IsWhole.read_unread (m := Memref.whole cc0_scratch0) _ _)) y
    · intro p j
      have ht : t.val - 1 < cfg0.N := Nat.lt_of_le_of_lt (Nat.sub_le _ _) t.isLt
      refine (carried_at m c ⟨t.val - 1, ht⟩ (by show (t.val - 1) % 2 = 0; omega) p j).trans ?_
      unfold row
      rw [dif_pos (by omega)]
      refine uTile_at m c ⟨t.val - 1, ht⟩ _ _ _ _ _ ?_ ?_ rfl
      · show t.val / 2 = (t.val - 1) / 2
        omega
      · show t.val % 2 * 1024 + p.val - 16 = (t.val - 1) % 2 * 1024 + (1008 + p.val)
        omega

end Cert.KernelIdeal.Proj
-- ==== Proof.Mixer.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.PoolFinal
public import Idealize.ShloMosaic.Lib.Claim

@[expose] public section

set_option maxHeartbeats 2000000

noncomputable section

namespace Cert.Proof

open Idealize.ShloMosaic Idealize.SL.Sem

set_option maxRecDepth 16384 in
/-- The reference's pooled array, named by the mixer's terms. -/
theorem pool_res (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v93 m' c
      = Cert.ReferenceIdeal.Value.POOL (Cert.ReferenceIdeal.Value.UREF (Cert.ReferenceIdeal.Value.PROJ (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rfl

/-- The input projection with the pooling mixer: the kernel's five arrays are the reference's five arrays. -/
theorem algebraic_mixer : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Value.run m' g'
    · exact (Cert.KernelIdeal.Proj.queries_final m c).symm
    · exact (Cert.KernelIdeal.Proj.keys_final m c).symm
    · exact (Cert.KernelIdeal.Proj.values_final m c).symm
    · obtain ⟨h0, h1, h2, h3, h4, h5⟩ := hagree c
      refine (pool_res m' c).trans ?_
      rw [h0, h1, h2, h3, h4, h5]
      exact (Cert.KernelIdeal.Proj.pool_final m c).symm
    · refine Eq.trans ?_ (Cert.KernelIdeal.Proj.tail_final m c).symm
      unfold Cert.KernelIdeal.Proj.U Cert.ReferenceIdeal.Value.TREF Cert.ReferenceIdeal.Value.UREF Cert.ReferenceIdeal.Value.PROJ
      rfl

/-- The reference of the mixer leaves its arguments as they were and no semaphore counted. -/
theorem reference_frame : Cert.quiescent_ReferenceIdeal (hReferenceIdeal := Cert.ReferenceIdeal.Gen.facts) := by
  intro m g _
  refine (θ_run Cert.ReferenceIdeal.defs _ _).mono (fun r h => ?_) (Cert.ReferenceIdeal.Value.run m g)
  exact ⟨fun c => (h c).2.2.2.2.2, sem_eq_zero_of_no_sems (by decide) _⟩

end Cert.Proof

end
-- ==== Proof.OutRef.lean ====
module

public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Reference2Ideal.Value

open Cert.Reference2Ideal Cert.Reference2Ideal.Gen

/-- The last four of the six modulation rows of each sequence. -/
def MODS (M : FVec Ideal S32x6144 .f32) : FVec Ideal S32x1x4096 .f32 :=
  broadcastInDim S32x1x4096 ![0, 2] bcast_S32x4096_S32x1x4096_0_2 (extractStridedSlice S32x4096 ![0, 2048] M slices_S32x6144_S32x4096_0_2048)

/-- One modulation row spread over the tokens of its sequence. -/
def SPREAD (r : FVec Ideal S32x1x1024 .f32) : FVec Ideal S32x4x1024 .f32 :=
  broadcastInDim S32x4x1024 ![0, 1, 2] bcast_S32x1x1024_S32x4x1024_0_1_2 r

/-- The gated mix added to the tokens. -/
def X1 (A0 : FVec Ideal S32x4x1024 .f32) (A1 A2 : FVec Ideal S1x128x512 .bf16) (A3 : FVec Ideal S32x6144 .f32) (A6 : FVec Ideal S1x1024x1024 .f32) : FVec Ideal S32x4x1024 .f32 :=
  addf A0 (mulf (SPREAD (extractStridedSlice S32x1x1024 ![0, 0, 0] (MODS A3) slices_S32x1x4096_S32x1x1024_0_0_0))
    (Host.dotGeneral dot_S32x4x1024_S1024x1024_S32x4x1024_2_0_01_1_n_n none
      (extf .f32 (concatenate S32x4x1024 2 [⟨S32x4x512, (shapeCast _ A1 shapeCasts_S1x128x512_S32x4x512)⟩, ⟨S32x4x512, (shapeCast _ A2 shapeCasts_S1x128x512_S32x4x512)⟩] concatenates_S32x4x512_S32x4x512_S32x4x1024_d2 : FVec Ideal S32x4x1024 .bf16) bitsLt_bf16_f32)
      (shapeCast S1024x1024 A6 shapeCasts_S1x1024x1024_S1024x1024)))

/-- The root mean square norm with its gains. -/
def RMS (X : FVec Ideal S32x4x1024 .f32) (g : FVec Ideal S1024 .f32) : FVec Ideal S32x4x1024 .f32 :=
  mulf (mulf X (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf X X) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32))))))
    (broadcastInDim S32x4x1024 ![0, 1, 2] bcast_S1x1x1024_S32x4x1024_0_1_2 (broadcastInDim S1x1x1024 ![2] bcast_S1024_S1x1x1024_2 g))

/-- The MLP's input: the norm, scaled and shifted by the modulation rows. -/
def HID (X : FVec Ideal S32x4x1024 .f32) (A3 : FVec Ideal S32x6144 .f32) (A4 : FVec Ideal S1x1024 .f32) : FVec Ideal S32x4x1024 .f32 :=
  addf (mulf (RMS X (shapeCast S1024 A4 shapeCasts_S1x1024_S1024))
      (SPREAD (addf (broadcastInDim S32x1x1024 ![] bcast_S_S32x1x1024 (constant S_ .f32 0x3F800000#32)) (extractStridedSlice S32x1x1024 ![0, 0, 2048] (MODS A3) slices_S32x1x4096_S32x1x1024_0_0_2048))))
    (SPREAD (extractStridedSlice S32x1x1024 ![0, 0, 1024] (MODS A3) slices_S32x1x4096_S32x1x1024_0_0_1024))

/-- The positive part of the MLP's first map. -/
def UP (H : FVec Ideal S32x4x1024 .f32) (A7 : FVec Ideal S1x1024x4096 .f32) : FVec Ideal S32x4x4096 .f32 :=
  maximumf (Host.dotGeneral dot_S32x4x1024_S1024x4096_S32x4x4096_2_0_01_1_n_n none H (shapeCast S1024x4096 A7 shapeCasts_S1x1024x4096_S1024x4096)) (broadcastInDim S32x4x4096 ![] bcast_S_S32x4x4096 (constant S_ .f32 0x00000000#32))

/-- The gated MLP added to its input. -/
def X2 (X : FVec Ideal S32x4x1024 .f32) (T : FVec Ideal S32x4x4096 .f32) (A3 : FVec Ideal S32x6144 .f32) (A8 : FVec Ideal S1x4096x1024 .f32) : FVec Ideal S32x4x1024 .f32 :=
  addf X (mulf (SPREAD (extractStridedSlice S32x1x1024 ![0, 0, 3072] (MODS A3) slices_S32x1x4096_S32x1x1024_0_0_3072))
    (Host.dotGeneral dot_S32x4x4096_S4096x1024_S32x4x1024_2_0_01_1_n_n none (mulf T T) (shapeCast S4096x1024 A8 shapeCasts_S1x4096x1024_S4096x1024)))

/-- The layer's end: output map, gate, MLP, final norm; rows of all sequences one after the other. -/
def Y (A0 : FVec Ideal S32x4x1024 .f32) (A1 A2 : FVec Ideal S1x128x512 .bf16) (A3 : FVec Ideal S32x6144 .f32) (A4 : FVec Ideal S1x1024 .f32) (A5 : FVec Ideal S1024 .f32)
    (A6 : FVec Ideal S1x1024x1024 .f32) (A7 : FVec Ideal S1x1024x4096 .f32) (A8 : FVec Ideal S1x4096x1024 .f32) : FVec Ideal S1x128x1024 .f32 :=
  shapeCast S1x128x1024 (RMS (X2 (X1 A0 A1 A2 A3 A6) (UP (HID (X1 A0 A1 A2 A3 A6) A3 A4) A7) A3 A8) A5) shapeCasts_S32x4x1024_S1x128x1024

/-- The reference's result by these names. -/
theorem res_eq (m : (ℓ : Loc nD τ sig) → Buf (Elt Ideal) ℓ) (c : Dev nD) :
    res_out0 m c = Y (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rfl

end Cert.Reference2Ideal.Value
-- ==== Proof.OutTile.lean ====
module

public import proofs.«01_k».proof.Proof.Gen.Kernel2Ideal.Frame
public import Idealize.ShloMosaic.Lib.Pipeline.ValueKit
public import Idealize.ShloMosaic.Lib.Claim
public import proofs.«01_k».proof.Proof.OutRef

@[expose] public section

set_option maxRecDepth 16384

noncomputable section

open Idealize.ShloMosaic Idealize.ShloMosaic.TcCoe Idealize.SL.Sem
open Idealize.ShloMosaic.Pipeline (Dat)

namespace Cert.Kernel2Ideal.OutTile

open Cert.Kernel2Ideal Cert.Kernel2Ideal.Gen
open Cert.Reference2Ideal.Value (X1 RMS HID UP X2 Y MODS SPREAD)

set_option maxHeartbeats 1000000

variable (m : (ℓ : Loc nD τ sig) → Buf (Elt Ideal) ℓ)

/-- The prefetched table restricts nothing: no block is read through it. -/
theorem ok : Ok m := trivial

/-- The output map of a row: the gated mix added to the tokens. -/
theorem x1_at (x v2 : FVec Ideal S1x128x1024 .f32) (a q : FVec Ideal S1x128x512 .bf16) (w w' : FVec Ideal S512x1024 .bf16)
    (A0 : FVec Ideal S32x4x1024 .f32) (A3 : FVec Ideal S32x6144 .f32) (A6 : FVec Ideal S1x1024x1024 .f32)
    (p : Fin 128) (b : Fin 32) (s : Fin 4) (hp : p.val = b.val * 4 + s.val)
    (hx : ∀ j, x (ix3 0 p j) = A0 (ix3 b s j)) (h2 : ∀ j : Fin 1024, v2 (ix3 0 p j) = A3 (ix2 b ⟨2048 + j.val, by omega⟩))
    (hw : ∀ (k : Fin 512) j, w (ix2 k j) = A6 (ix3 0 ⟨k.val, by omega⟩ j)) (hw' : ∀ (k : Fin 512) j, w' (ix2 k j) = A6 (ix3 0 ⟨512 + k.val, by omega⟩ j)) (j : Fin 1024) :
    k0_pay5 x v2 a w q w' (ix2 p j) = X1 A0 a q A3 A6 (ix3 b s j) := by
  pointwise [k0_pay5, X1, SPREAD, MODS]
  have e : (⟨b.val * 4 + s.val, by omega⟩ : Fin 128) = p := Fin.ext hp.symm
  simp only [e, hx, h2, hw, hw']

/-- A row's end from its output map on: norm, MLP, gate, final norm. -/
theorem y_at (v5 v7 v9 v22 : FVec Ideal S128x1024 .f32) (v23 : FVec Ideal S1x1024 .f32) (v26 : FVec Ideal S128x1 .f32) (wu : FVec Ideal S1024x4096 .bf16) (wd : FVec Ideal S4096x1024 .bf16) (gf : FVec Ideal S1x1024 .f32)
    (X : FVec Ideal S32x4x1024 .f32) (A3 : FVec Ideal S32x6144 .f32) (A5 : FVec Ideal Cert.Reference2Ideal.S1024 .f32)
    (A7 : FVec Ideal Cert.Reference2Ideal.S1x1024x4096 .f32) (A8 : FVec Ideal Cert.Reference2Ideal.S1x4096x1024 .f32)
    (p : Fin 128) (b : Fin 32) (s : Fin 4)
    (hX : ∀ j, v22 (ix2 p j) = X (ix3 b s j)) (hq : v26 (ix2 p 0) = ∑ k, v22 (ix2 p k) * v22 (ix2 p k))
    (h5 : ∀ j : Fin 1024, v5 (ix2 p j) = A3 (ix2 b ⟨3072 + j.val, by omega⟩)) (h7 : ∀ j : Fin 1024, v7 (ix2 p j) = A3 (ix2 b ⟨4096 + j.val, by omega⟩))
    (h9 : ∀ j : Fin 1024, v9 (ix2 p j) = A3 (ix2 b ⟨5120 + j.val, by omega⟩))
    (hu : ∀ k j, wu (ix2 k j) = A7 (ix3 0 k j)) (hd : ∀ k j, wd (ix2 k j) = A8 (ix3 0 k j)) (hf : ∀ j, gf (ix2 0 j) = A5 (ix1 j)) (j : Fin 1024) :
    k0_pay7 v5 v7 v9 v22 v23 v26 (FloatOps.ofBits FTy.f32 1149239296#32) wu wd gf (ix2 p j) = RMS (X2 X (UP (HID X A3 v23) A7) A3 A8) A5 (ix3 b s j) := by
  have hid : ∀ k : Fin 1024, HID X A3 v23 (ix3 b s k) =
      v22 (ix2 p k) * Ideal.rsqrt (Ideal.div (v26 (ix2 p 0)) (Ideal.ofBits FTy.f32 1149239296#32) + Ideal.ofBits FTy.f32 897988541#32) * (v23 (ix2 0 k) * (1 + v7 (ix2 p k))) + v5 (ix2 p k) := by
    intro k
    rw [h5, h7, hq]
    simp only [hX]
    pointwise [HID, RMS, SPREAD, MODS]
    rw [mul_assoc (_ * _)]
    congr 4
    · exact congrArg A3 (congrArg (ix2 b) (Fin.ext (show 2048 + (2048 + k.val) = 4096 + k.val by omega)))
    · omega
  have hx2 : ∀ k : Fin 1024, X2 X (UP (HID X A3 v23) A7) A3 A8 (ix3 b s k) =
      v22 (ix2 p k) + v9 (ix2 p k) * ∑ x, max (∑ y, HID X A3 v23 (ix3 b s y) * wu (ix2 y x)) 0 * max (∑ y, HID X A3 v23 (ix3 b s y) * wu (ix2 y x)) 0 * wd (ix2 x k) := by
    intro k
    rw [h9]
    simp only [hX, hu, hd]
    pointwise [X2, UP, SPREAD, MODS]
    congr 2
    exact congrArg A3 (congrArg (ix2 b) (Fin.ext (by first | omega | (simp; omega))))
  have key : RMS (X2 X (UP (HID X A3 v23) A7) A3 A8) A5 (ix3 b s j) = X2 X (UP (HID X A3 v23) A7) A3 A8 (ix3 b s j)
      * Ideal.rsqrt (Ideal.div (∑ x, X2 X (UP (HID X A3 v23) A7) A3 A8 (ix3 b s x) * X2 X (UP (HID X A3 v23) A7) A3 A8 (ix3 b s x)) (Ideal.ofBits FTy.f32 1149239296#32) + Ideal.ofBits FTy.f32 897988541#32) * A5 (ix1 j) := by
    pointwise [RMS]
  rw [key]
  simp only [hx2, hid, ← hf]
  pointwise [k0_pay7]

/-- The whole row over the window's blocks. -/
theorem tile_at (x : FVec Ideal S1x128x1024 .f32) (a q : FVec Ideal S1x128x512 .bf16) (md : FVec Ideal S1x128x6144 .f32) (gm gf : FVec Ideal S1x1024 .f32) (wo : FVec Ideal S1024x1024 .bf16)
    (wu : FVec Ideal S1024x4096 .bf16) (wd : FVec Ideal S4096x1024 .bf16)
    (A0 : FVec Ideal S32x4x1024 .f32) (A3 : FVec Ideal S32x6144 .f32) (A5 : FVec Ideal Cert.Reference2Ideal.S1024 .f32) (A6 : FVec Ideal S1x1024x1024 .f32)
    (A7 : FVec Ideal Cert.Reference2Ideal.S1x1024x4096 .f32) (A8 : FVec Ideal Cert.Reference2Ideal.S1x4096x1024 .f32)
    (hx : ∀ (b : Fin 32) (s : Fin 4) j, x (ix3 0 ⟨b.val * 4 + s.val, by omega⟩ j) = A0 (ix3 b s j)) (hmd : ∀ (b : Fin 32) (s : Fin 4) j, md (ix3 0 ⟨b.val * 4 + s.val, by omega⟩ j) = A3 (ix2 b j))
    (ho : ∀ k j, wo (ix2 k j) = A6 (ix3 0 k j)) (hu : ∀ k j, wu (ix2 k j) = A7 (ix3 0 k j)) (hd : ∀ k j, wd (ix2 k j) = A8 (ix3 0 k j)) (hf : ∀ j, gf (ix2 0 j) = A5 (ix1 j)) (y : S1x128x1024.Idx) :
    k0_pay1 (k0_pay7 (k0_pay2 (View.ld md (Rect.unit (s := S1x128x6144) ![0, 0, 3072] ![1, 128, 1024] inb_S1x128x6144_S1x128x1024_0_0_3072)))
        (k0_pay3 (View.ld md (Rect.unit (s := S1x128x6144) ![0, 0, 4096] ![1, 128, 1024] inb_S1x128x6144_S1x128x1024_0_0_4096)))
        (k0_pay4 (View.ld md (Rect.unit (s := S1x128x6144) ![0, 0, 5120] ![1, 128, 1024] inb_S1x128x6144_S1x128x1024_0_0_5120)))
        (k0_pay5 x (View.ld md (Rect.unit (s := S1x128x6144) ![0, 0, 2048] ![1, 128, 1024] inb_S1x128x6144_S1x128x1024_0_0_2048)) a
          (View.ld wo (Rect.unit (s := S1024x1024) ![0, 0] ![512, 1024] inb_S1024x1024_S512x1024_0_0)) q
          (View.ld wo (Rect.unit (s := S1024x1024) ![512, 0] ![512, 1024] inb_S1024x1024_S512x1024_512_0))) gm
        (k0_pay6 x (View.ld md (Rect.unit (s := S1x128x6144) ![0, 0, 2048] ![1, 128, 1024] inb_S1x128x6144_S1x128x1024_0_0_2048)) a
          (View.ld wo (Rect.unit (s := S1024x1024) ![0, 0] ![512, 1024] inb_S1024x1024_S512x1024_0_0)) q
          (View.ld wo (Rect.unit (s := S1024x1024) ![512, 0] ![512, 1024] inb_S1024x1024_S512x1024_512_0)))
        (FloatOps.ofBits FTy.f32 1149239296#32) wu wd gf) y
      = Y A0 a q A3 gm A5 A6 A7 A8 y := by
  idx_vars y
  pointwise [k0_pay1, Y]
  have hp : (⟨(⟨y1.val / 4, by omega⟩ : Fin 32).val * 4 + (⟨y1.val % 4, by omega⟩ : Fin 4).val, by have := y1.isLt; dsimp only; omega⟩ : Fin 128) = y1 := Fin.ext (by dsimp only; omega)
  have hx' := hx ⟨y1.val / 4, by omega⟩ ⟨y1.val % 4, by omega⟩
  have hmd' := hmd ⟨y1.val / 4, by omega⟩ ⟨y1.val % 4, by omega⟩
  rw [hp] at hx' hmd'
  refine y_at _ _ _ _ _ _ _ _ _ (X1 A0 a q A3 A6) A3 A5 A7 A8 y1 _ _ (fun j => ?_) ?_ (fun j => ?_) (fun j => ?_) (fun j => ?_) hu hd hf y2
  · refine x1_at _ _ _ _ _ _ _ _ _ y1 _ _ (congrArg Fin.val hp).symm hx' (fun j => ?_) (fun k j => ?_) (fun k j => ?_) j
    · rw [← hmd']; pointwise
    · rw [← ho]; pointwise
    · rw [← ho]; pointwise
  · pointwise [k0_pay6]
  · rw [← hmd']; pointwise [k0_pay2]
  · rw [← hmd']; pointwise [k0_pay3]
  · rw [← hmd']; pointwise [k0_pay4]

/-- The windows read whole arrays. -/
theorem index0 (w : Fin 9) (a) : ((cfgM m (ok m)).win w.castSucc).index t0_0 a = 0 :=
  (by decide +kernel : ∀ w : Fin 9, ∀ a, ((cfgM (F := Ideal) (fun _ => Classical.arbitrary _) trivial).win w.castSucc).index t0_0 a = 0) w a

/-- Window 9 writes its whole array at once. -/
theorem whole9 : ((cfgM m (ok m)).win 9).WholeAt t0_0 :=
  (by decide +kernel : ((cfgM (F := Ideal) (fun _ => Classical.arbitrary _) trivial).win 9).WholeAt t0_0)

/-- Window 0's block is its array. -/
theorem read0 (c : Dev nD) : View.read (Elt Ideal) (ms0_0 m (ok m) t0_0).view ((hs0_0 m (ok m) t0_0).unread (iblk m (ok m) c 0 t0_0)) = V m c main_v0 :=
  (Memref.IsWhole.read_unread _ _).trans (funext fun x => congrArg (V m c main_v0) (funext fun a => Fin.ext (Pipeline.Window.rect_emb_val_of_index_zero _ _ _ (index0 m 0 a) x)))

/-- Window 1's block is its array. -/
theorem read1 (c : Dev nD) : View.read (Elt Ideal) (ms0_1 m (ok m) t0_0).view ((hs0_1 m (ok m) t0_0).unread (iblk m (ok m) c 1 t0_0)) = V m c main_arg1 :=
  (Memref.IsWhole.read_unread _ _).trans (funext fun x => congrArg (V m c main_arg1) (funext fun a => Fin.ext (Pipeline.Window.rect_emb_val_of_index_zero _ _ _ (index0 m 1 a) x)))

/-- Window 2's block is its array. -/
theorem read2 (c : Dev nD) : View.read (Elt Ideal) (ms0_2 m (ok m) t0_0).view ((hs0_2 m (ok m) t0_0).unread (iblk m (ok m) c 2 t0_0)) = V m c main_arg2 :=
  (Memref.IsWhole.read_unread _ _).trans (funext fun x => congrArg (V m c main_arg2) (funext fun a => Fin.ext (Pipeline.Window.rect_emb_val_of_index_zero _ _ _ (index0 m 2 a) x)))

/-- Window 3's block is its array. -/
theorem read3 (c : Dev nD) : View.read (Elt Ideal) (ms0_3 m (ok m) t0_0).view ((hs0_3 m (ok m) t0_0).unread (iblk m (ok m) c 3 t0_0)) = V m c main_v3 :=
  (Memref.IsWhole.read_unread _ _).trans (funext fun x => congrArg (V m c main_v3) (funext fun a => Fin.ext (Pipeline.Window.rect_emb_val_of_index_zero _ _ _ (index0 m 3 a) x)))

/-- Window 4's block is its array. -/
theorem read4 (c : Dev nD) : View.read (Elt Ideal) (ms0_4 m (ok m) t0_0).view ((hs0_4 m (ok m) t0_0).unread (iblk m (ok m) c 4 t0_0)) = V m c main_arg4 :=
  (Memref.IsWhole.read_unread _ _).trans (funext fun x => congrArg (V m c main_arg4) (funext fun a => Fin.ext (Pipeline.Window.rect_emb_val_of_index_zero _ _ _ (index0 m 4 a) x)))

/-- Window 5's block is its array. -/
theorem read5 (c : Dev nD) : View.read (Elt Ideal) (ms0_5 m (ok m) t0_0).view ((hs0_5 m (ok m) t0_0).unread (iblk m (ok m) c 5 t0_0)) = V m c main_v10 :=
  (Memref.IsWhole.read_unread _ _).trans (funext fun x => congrArg (V m c main_v10) (funext fun a => Fin.ext (Pipeline.Window.rect_emb_val_of_index_zero _ _ _ (index0 m 5 a) x)))

/-- Window 6's block is its array. -/
theorem read6 (c : Dev nD) : View.read (Elt Ideal) (ms0_6 m (ok m) t0_0).view ((hs0_6 m (ok m) t0_0).unread (iblk m (ok m) c 6 t0_0)) = V m c main_v5 :=
  (Memref.IsWhole.read_unread _ _).trans (funext fun x => congrArg (V m c main_v5) (funext fun a => Fin.ext (Pipeline.Window.rect_emb_val_of_index_zero _ _ _ (index0 m 6 a) x)))

/-- Window 7's block is its array. -/
theorem read7 (c : Dev nD) : View.read (Elt Ideal) (ms0_7 m (ok m) t0_0).view ((hs0_7 m (ok m) t0_0).unread (iblk m (ok m) c 7 t0_0)) = V m c main_v7 :=
  (Memref.IsWhole.read_unread _ _).trans (funext fun x => congrArg (V m c main_v7) (funext fun a => Fin.ext (Pipeline.Window.rect_emb_val_of_index_zero _ _ _ (index0 m 7 a) x)))

/-- Window 8's block is its array. -/
theorem read8 (c : Dev nD) : View.read (Elt Ideal) (ms0_8 m (ok m) t0_0).view ((hs0_8 m (ok m) t0_0).unread (iblk m (ok m) c 8 t0_0)) = V m c main_v9 :=
  (Memref.IsWhole.read_unread _ _).trans (funext fun x => congrArg (V m c main_v9) (funext fun a => Fin.ext (Pipeline.Window.rect_emb_val_of_index_zero _ _ _ (index0 m 8 a) x)))

/-- The array `v0` as a function of its argument. -/
def A_v0 (A : FVec Ideal S32x4x1024 .f32) : FVec Ideal S1x128x1024 .f32 := shapeCast S1x128x1024 A shapeCasts_S32x4x1024_S1x128x1024

/-- `A_v0` at an element. -/
theorem A_v0_at (A : FVec Ideal S32x4x1024 .f32) (b : Fin 32) (s : Fin 4) (j : Fin 1024) : A_v0 A (ix3 0 ⟨b.val * 4 + s.val, by omega⟩ j) = A (ix3 b s j) := by
  pointwise [A_v0]

/-- The array `v0` when the call begins. -/
theorem val_v0 (c : Dev nD) : V m c main_v0 = A_v0 (m ((c : Thread nD τ).loc main_arg0)) := rfl

/-- The array `v3` as a function of its argument. -/
def A_v3 (A : FVec Ideal S32x6144 .f32) : FVec Ideal S1x128x6144 .f32 := shapeCast S1x128x6144 (shapeCast S128x6144 (broadcastInDim S32x4x6144 ![0, 2] bcast_S32x6144_S32x4x6144_0_2 A) shapeCasts_S32x4x6144_S128x6144) shapeCasts_S128x6144_S1x128x6144

/-- `A_v3` at an element. -/
theorem A_v3_at (A : FVec Ideal S32x6144 .f32) (b : Fin 32) (s : Fin 4) (j : Fin 6144) : A_v3 A (ix3 0 ⟨b.val * 4 + s.val, by omega⟩ j) = A (ix2 b j) := by
  pointwise [A_v3]

/-- The array `v3` when the call begins. -/
theorem val_v3 (c : Dev nD) : V m c main_v3 = A_v3 (m ((c : Thread nD τ).loc main_arg3)) := rfl

/-- The array `v5` as a function of its argument. -/
def A_v5 (A : FVec Ideal S1x1024x1024 .f32) : FVec Ideal S1024x1024 .bf16 := truncf .bf16 (shapeCast S1024x1024 A shapeCasts_S1x1024x1024_S1024x1024) bitsLt_bf16_f32

/-- `A_v5` at an element. -/
theorem A_v5_at (A : FVec Ideal S1x1024x1024 .f32) (i : Fin 1024) (j : Fin 1024) : A_v5 A (ix2 i j) = A (ix3 0 i j) := by
  pointwise [A_v5]

/-- The array `v5` when the call begins. -/
theorem val_v5 (c : Dev nD) : V m c main_v5 = A_v5 (m ((c : Thread nD τ).loc main_arg6)) := rfl

/-- The array `v7` as a function of its argument. -/
def A_v7 (A : FVec Ideal S1x1024x4096 .f32) : FVec Ideal S1024x4096 .bf16 := truncf .bf16 (shapeCast S1024x4096 A shapeCasts_S1x1024x4096_S1024x4096) bitsLt_bf16_f32

/-- `A_v7` at an element. -/
theorem A_v7_at (A : FVec Ideal S1x1024x4096 .f32) (i : Fin 1024) (j : Fin 4096) : A_v7 A (ix2 i j) = A (ix3 0 i j) := by
  pointwise [A_v7]

/-- The array `v7` when the call begins. -/
theorem val_v7 (c : Dev nD) : V m c main_v7 = A_v7 (m ((c : Thread nD τ).loc main_arg7)) := rfl

/-- The array `v9` as a function of its argument. -/
def A_v9 (A : FVec Ideal S1x4096x1024 .f32) : FVec Ideal S4096x1024 .bf16 := truncf .bf16 (shapeCast S4096x1024 A shapeCasts_S1x4096x1024_S4096x1024) bitsLt_bf16_f32

/-- `A_v9` at an element. -/
theorem A_v9_at (A : FVec Ideal S1x4096x1024 .f32) (i : Fin 4096) (j : Fin 1024) : A_v9 A (ix2 i j) = A (ix3 0 i j) := by
  pointwise [A_v9]

/-- The array `v9` when the call begins. -/
theorem val_v9 (c : Dev nD) : V m c main_v9 = A_v9 (m ((c : Thread nD τ).loc main_arg8)) := rfl

/-- The array `v10` as a function of its argument. -/
def A_v10 (A : FVec Ideal S1024 .f32) : FVec Ideal S1x1024 .f32 := shapeCast S1x1024 A shapeCasts_S1024_S1x1024

/-- `A_v10` at an element. -/
theorem A_v10_at (A : FVec Ideal S1024 .f32) (j : Fin 1024) : A_v10 A (ix2 0 j) = A (ix1 j) := by
  pointwise [A_v10]

/-- The array `v10` when the call begins. -/
theorem val_v10 (c : Dev nD) : V m c main_v10 = A_v10 (m ((c : Thread nD τ).loc main_arg5)) := rfl

/-- The output array after the run. -/
theorem out_final (c : Dev nD) : (dats m (ok m) 0 c).arrAt 9 (cfgM m (ok m)).N
    = Y (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m (ok m) 0 c).arrAt_eq_of_after_last 9 t0_0 (whole9 m) _ fun j => ?_
  blk_simp
  rw [after0_9]; unfold outsAt0; frame_out
  rw [read0, read1, read2, read3, read4, read5, read6, read7, read8, V_main_arg1, V_main_arg2, V_main_arg4, val_v0, val_v3, val_v5, val_v7, val_v9, val_v10]
  exact tile_at (A_v0 (m ((c : Thread nD τ).loc main_arg0))) (m ((c : Thread nD τ).loc main_arg1)) (m ((c : Thread nD τ).loc main_arg2)) (A_v3 (m ((c : Thread nD τ).loc main_arg3))) (m ((c : Thread nD τ).loc main_arg4))
    (A_v10 (m ((c : Thread nD τ).loc main_arg5))) (A_v5 (m ((c : Thread nD τ).loc main_arg6))) (A_v7 (m ((c : Thread nD τ).loc main_arg7))) (A_v9 (m ((c : Thread nD τ).loc main_arg8)))
    (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))
    (A_v0_at _) (A_v3_at _) (A_v5_at _) (A_v7_at _) (A_v9_at _) (A_v10_at _) j

end Cert.Kernel2Ideal.OutTile
-- ==== Proof.Out.lean ====
module

public import proofs.«01_k».proof.Defs
public import proofs.«01_k».proof.Proof.Gen.Kernel2.Frame
public import proofs.«01_k».proof.Proof.OutTile

@[expose] public section

set_option maxRecDepth 16384
set_option maxHeartbeats 2000000

noncomputable section

namespace Cert.Proof

open Idealize.ShloMosaic Idealize.SL.Sem

open Cert.Kernel2Ideal Cert.Kernel2Ideal.Gen TcCoe in
/-- The output call ends with its output array at the reference's rows and its arguments as they were. -/
theorem out_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v11) = (Cert.Reference2Ideal.Value.Y (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8)))) :=
  (θ_run defs _ _).mono (fun r h c => ((h c).1 9).trans (Cert.Kernel2Ideal.OutTile.out_final m c)) (run_main m g (Cert.Kernel2Ideal.OutTile.ok m))

/-- The output call computes its reference over the reals. -/
theorem algebraic_out : Cert.algebraic_Kernel2Ideal_Reference2Ideal (hKernel2Ideal := Cert.Kernel2Ideal.Gen.facts) (hReference2Ideal := Cert.Reference2Ideal.Gen.facts) := by
  intro m g m' g' _ hagree
  refine ⟨_, (θ_run Cert.Kernel2Ideal.defs _ _).mono (fun r h c => ⟨h.1 c, h.2 c⟩) (θ_run_and (out_run m g) (Cert.Kernel2Ideal.Gen.unchanged m g (Cert.Kernel2Ideal.OutTile.ok m))), ?_⟩
  refine (θ_run Cert.Reference2Ideal.defs _ _).mono (fun r h c => ⟨(h c).1.trans ?_, (h c).2⟩) (Cert.Reference2Ideal.Value.run m' g')
  obtain ⟨h0, h1, h2, h3, h4, h5, h6, h7, h8, h9⟩ := hagree c
  refine (Cert.Reference2Ideal.Value.res_eq m' c).trans ?_
  rw [h0, h1, h2, h3, h4, h5, h6, h7, h8]

/-- The output call's reference leaves its arguments as they were and no semaphore counted. -/
theorem out_reference_frame : Cert.quiescent_Reference2Ideal (hReference2Ideal := Cert.Reference2Ideal.Gen.facts) := by
  intro m g _
  refine (θ_run Cert.Reference2Ideal.defs _ _).mono (fun r h => ?_) (Cert.Reference2Ideal.Value.run m g)
  exact ⟨fun c => (h c).2, sem_eq_zero_of_no_sems (by decide) _⟩

end Cert.Proof

end
-- ==== Proof.SampleProj.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Lib.Pointwise
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.Reference3Ideal.Value

open Cert.Reference3Ideal Cert.Reference3Ideal.Gen

/-- The combined projection of the normed and modulated tokens. -/
def U (A0 : FVec Ideal S32x4x1024 .f32) (A1 : FVec Ideal S32x6144 .f32) (A2 : FVec Ideal S1x1024 .f32) (A3 : FVec Ideal S1x1024x2048 .f32) : FVec Ideal S32x4x2048 .f32 :=
  Host.dotGeneral dot_S32x4x1024_S1024x2048_S32x4x2048_2_0_01_1_n_n none
    (addf (mulf (mulf (mulf A0 (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf A0 A0) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32))))))
          (broadcastInDim S32x4x1024 ![0, 1, 2] bcast_S1x1x1024_S32x4x1024_0_1_2 (broadcastInDim S1x1x1024 ![2] bcast_S1024_S1x1x1024_2 (shapeCast S1024 A2 shapeCasts_S1x1024_S1024))))
        (broadcastInDim S32x4x1024 ![0, 1, 2] bcast_S32x1x1024_S32x4x1024_0_1_2 (addf (broadcastInDim S32x1x1024 ![] bcast_S_S32x1x1024 (constant S_ .f32 0x3F800000#32))
          (broadcastInDim S32x1x1024 ![0, 2] bcast_S32x1024_S32x1x1024_0_2 (extractStridedSlice S32x1024 ![0, 1024] A1 slices_S32x6144_S32x1024_0_1024)))))
      (broadcastInDim S32x4x1024 ![0, 1, 2] bcast_S32x1x1024_S32x4x1024_0_1_2 (broadcastInDim S32x1x1024 ![0, 2] bcast_S32x1024_S32x1x1024_0_2 (extractStridedSlice S32x1024 ![0, 0] A1 slices_S32x6144_S32x1024_0_0))))
    (shapeCast S1024x2048 A3 shapeCasts_S1x1024x2048_S1024x2048)

/-- The queries, scaled. -/
def QO (u : FVec Ideal S32x4x2048 .f32) : FVec Ideal S1x128x512 .bf16 :=
  shapeCast S1x128x512 (truncf .bf16 (mulf (extractStridedSlice S32x4x512 ![0, 0, 0] u slices_S32x4x2048_S32x4x512_0_0_0) (broadcastInDim S32x4x512 ![] bcast_S_S32x4x512 (constant S_ .f32 0x3E38AA3B#32))) bitsLt_bf16_f32) shapeCasts_S32x4x512_S1x128x512

/-- The keys. -/
def KO (u : FVec Ideal S32x4x2048 .f32) : FVec Ideal S1x128x512 .f32 :=
  shapeCast S1x128x512 (extractStridedSlice S32x4x512 ![0, 0, 512] u slices_S32x4x2048_S32x4x512_0_0_512) shapeCasts_S32x4x512_S1x128x512

/-- The values. -/
def VO (u : FVec Ideal S32x4x2048 .f32) : FVec Ideal S1x128x512 .f32 :=
  shapeCast S1x128x512 (extractStridedSlice S32x4x512 ![0, 0, 1024] u slices_S32x4x2048_S32x4x512_0_0_1024) shapeCasts_S32x4x512_S1x128x512

/-- The new pooling state: the last rows of the old state followed by the pooling input. -/
def TO (A4 : FVec Ideal S1x32x15x512 .f32) (u : FVec Ideal S32x4x2048 .f32) : FVec Ideal S1x32x15x512 .f32 :=
  broadcastInDim S1x32x15x512 ![1, 2, 3] bcast_S32x15x512_S1x32x15x512_1_2_3 (extractStridedSlice S32x15x512 ![0, 4, 0]
    (concatenate S32x19x512 1 [⟨S32x15x512, shapeCast S32x15x512 A4 shapeCasts_S1x32x15x512_S32x15x512⟩, ⟨S32x4x512, extractStridedSlice S32x4x512 ![0, 0, 1536] u slices_S32x4x2048_S32x4x512_0_0_1536⟩]
      concatenates_S32x15x512_S32x4x512_S32x19x512_d1) slices_S32x19x512_S32x15x512_0_4_0)

/-- The pooling input. -/
def PO (u : FVec Ideal S32x4x2048 .f32) : FVec Ideal S1x128x512 .f32 :=
  shapeCast S1x128x512 (extractStridedSlice S32x4x512 ![0, 0, 1536] u slices_S32x4x2048_S32x4x512_0_0_1536) shapeCasts_S32x4x512_S1x128x512

end Cert.Reference3Ideal.Value

namespace Cert.Kernel3Ideal.Proj

open Cert.Kernel3Ideal Cert.Kernel3Ideal.Gen
open Cert.Reference3Ideal.Value (U QO KO VO PO)

variable (m : (ℓ : Loc nD τ sig) → Buf (Elt Ideal) ℓ)

/-- The projection of the launch's arguments. -/
abbrev UU (c : Dev nD) : FVec Ideal Cert.Reference3Ideal.S32x4x2048 .f32 :=
  U (m ((c : Thread nD τ).loc main_arg0)) (m ((c : Thread nD τ).loc main_arg1)) (m ((c : Thread nD τ).loc main_arg2)) (m ((c : Thread nD τ).loc main_arg3))

/-- Every window's block is its whole array. -/
theorem idx : ∀ t : Fin cfg0.N, (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0) :=
  (by decide +kernel : ∀ t : Fin grid0.N, _)

/-- The tokens, as rows. -/
def A_v0 (x : FVec Ideal S32x4x1024 .f32) : FVec Ideal S1x128x1024 .f32 := shapeCast S1x128x1024 x shapeCasts_S32x4x1024_S1x128x1024

/-- Each token's modulation row. -/
def A_v3 (x : FVec Ideal S32x6144 .f32) : FVec Ideal S1x128x6144 .f32 :=
  shapeCast S1x128x6144 (shapeCast S128x6144 (broadcastInDim S32x4x6144 ![0, 2] bcast_S32x6144_S32x4x6144_0_2 x) shapeCasts_S32x4x6144_S128x6144) shapeCasts_S128x6144_S1x128x6144

/-- The weights, as the call reads them. -/
def A_v5 (x : FVec Ideal S1x1024x2048 .f32) : FVec Ideal S1024x2048 .bf16 := truncf .bf16 (shapeCast S1024x2048 x shapeCasts_S1x1024x2048_S1024x2048) bitsLt_bf16_f32

/-- A token of the rows. -/
theorem A_v0_at (x : FVec Ideal S32x4x1024 .f32) (p : Fin 128) (b : Fin 32) (s : Fin 4) (hp : p.val = b.val * 4 + s.val) (j : Fin 1024) : A_v0 x (ix3 0 p j) = x (ix3 b s j) := by
  pointwise [A_v0]
  congr 2 <;> exact Fin.ext (by dsimp only; omega)

/-- A token's modulation row. -/
theorem A_v3_at (x : FVec Ideal S32x6144 .f32) (p : Fin 128) (b : Fin 32) (s : Fin 4) (hp : p.val = b.val * 4 + s.val) (j : Fin 6144) : A_v3 x (ix3 0 p j) = x (ix2 b j) := by
  pointwise [A_v3]
  congr 2; exact Fin.ext (by dsimp only; omega)

/-- An entry of the weights. -/
theorem A_v5_at (x : FVec Ideal S1x1024x2048 .f32) (k : Fin 1024) (j : Fin 2048) : A_v5 x (ix2 k j) = x (ix3 0 k j) := by
  pointwise [A_v5]

/-- The tokens' block. -/
theorem blk0 (c : Dev nD) (t : Fin cfg0.N) : iblk m c 0 t = A_v0 (m ((c : Thread nD τ).loc main_arg0)) :=
  funext fun x => congrArg (V m c main_v0) (funext fun a => Fin.ext (Pipeline.Window.rect_emb_val_of_index_zero win0_0 t a ((idx t).1 a) x))

/-- The modulation rows' block. -/
theorem blk1 (c : Dev nD) (t : Fin cfg0.N) : iblk m c 1 t = A_v3 (m ((c : Thread nD τ).loc main_arg1)) :=
  funext fun x => congrArg (V m c main_v3) (funext fun a => Fin.ext (Pipeline.Window.rect_emb_val_of_index_zero win0_1 t a ((idx t).2.1 a) x))

/-- The gains' block. -/
theorem blk2 (c : Dev nD) (t : Fin cfg0.N) : iblk m c 2 t = m ((c : Thread nD τ).loc main_arg2) :=
  funext fun x => congrArg (V m c main_arg2) (funext fun a => Fin.ext (Pipeline.Window.rect_emb_val_of_index_zero win0_2 t a ((idx t).2.2.1 a) x))

/-- The weights' block. -/
theorem blk3 (c : Dev nD) (t : Fin cfg0.N) : iblk m c 3 t = A_v5 (m ((c : Thread nD τ).loc main_arg3)) :=
  funext fun x => congrArg (V m c main_v5) (funext fun a => Fin.ext (Pipeline.Window.rect_emb_val_of_index_zero win0_3 t a ((idx t).2.2.2.1 a) x))

/-- The pooling columns of a row. -/
theorem u_at (A0 : FVec Ideal S32x4x1024 .f32) (A1 : FVec Ideal S32x6144 .f32) (A2 : FVec Ideal S1x1024 .f32) (A3 : FVec Ideal S1x1024x2048 .f32)
    (p : Fin 128) (b : Fin 32) (s : Fin 4) (hp : p.val = b.val * 4 + s.val) (j : Fin 512) (k : Fin 2048) (hk : k.val = 1536 + j.val) :
    k0_pay6 (A_v0 A0) (View.ld (A_v3 A1) r0_1) (View.ld (A_v3 A1) r0_2) A2 (View.ld (A_v5 A3) r0_4) (ix2 p j) = U A0 A1 A2 A3 (ix3 b s k) := by
  have e : (⟨1536 + j.val, by omega⟩ : Fin 2048) = k := Fin.ext hk.symm
  pointwise [k0_pay6, k0_pay5, U, r0_1, r0_2, r0_4]
  simp only [mul_assoc, A_v0_at _ _ _ _ hp, A_v3_at _ _ _ _ hp, A_v5_at, e]

/-- The query, key and value columns of a row. -/
theorem qkv_at (A0 : FVec Ideal S32x4x1024 .f32) (A1 : FVec Ideal S32x6144 .f32) (A2 : FVec Ideal S1x1024 .f32) (A3 : FVec Ideal S1x1024x2048 .f32)
    (p : Fin 128) (b : Fin 32) (s : Fin 4) (hp : p.val = b.val * 4 + s.val) (j : Fin 1536) (k : Fin 2048) (hk : k.val = j.val) :
    k0_pay7 (A_v0 A0) (View.ld (A_v3 A1) r0_1) (View.ld (A_v3 A1) r0_2) A2 (View.ld (A_v5 A3) r0_5) (ix2 p j) = U A0 A1 A2 A3 (ix3 b s k) := by
  have e : (⟨j.val, by omega⟩ : Fin 2048) = k := Fin.ext hk.symm
  pointwise [k0_pay7, k0_pay5, U, r0_1, r0_2, r0_5]
  simp only [mul_assoc, A_v0_at _ _ _ _ hp, A_v3_at _ _ _ _ hp, A_v5_at, e]

end Cert.Kernel3Ideal.Proj

end
-- ==== Proof.Sample.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.SampleProj
public import Idealize.ShloMosaic.Lib.Pointwise
public import Idealize.ShloMosaic.Lib.Pipeline.ValueKit
public import Idealize.ShloMosaic.Lib.Claim

@[expose] public section

set_option maxRecDepth 16384
set_option maxHeartbeats 2000000

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen
open Cert.Reference3Ideal.Value (U QO KO VO PO TO)

variable (m : (ℓ : Loc nD τ sig) → Buf (Elt Ideal) ℓ)

/-- The shared value's loads of whole blocks read the blocks. -/
theorem pay9_eq (x0 : Vec Ideal S1x128x1024 .f32) (x1 : Vec Ideal S1x128x6144 .f32) (x2 : Vec Ideal S1x1024 .f32) (x3 : Vec Ideal S1024x2048 .bf16) :
    k0_pay9 x0 x1 x2 x3 = k0_pay7 x0 (View.ld x1 r0_1) (View.ld x1 r0_2) x2 (View.ld x3 r0_5) := by
  unfold k0_pay9
  rw [show View.ld x0 r0_0 = x0 from View.ld_unit_lit _ _ (by decide), show View.ld x2 r0_3 = x2 from View.ld_unit_lit _ _ (by decide)]

/-- The queries array after the run. -/
theorem queries_final (c : Dev nD) : (dats m 0 c).arrAt 4 (cfgs 0).N = QO (UU m c) := by
  refine (dats m 0 c).arrAt_eq_of_covers 4 _ (by decide +kernel) fun t hf y => ?_
  blk_simp
  rw [after0_4, blk0, blk1, blk2, blk3]
  frame_out
  idx_vars y
  pointwise [k0_pay1, k0_pay8, QO]
  refine congrArg (· * _) (qkv_at _ _ _ _ _ _ _ ?_ _ _ ?_)
  · show y1.val = (win0_4.rect t).emb (ix3 y0 y1 y2) 1 / 4 * 4 + (win0_4.rect t).emb (ix3 y0 y1 y2) 1 % 4
    have h : ((win0_4.rect t).emb (ix3 y0 y1 y2) 1 : Nat) = y1.val := Pipeline.Window.rect_emb_val_of_index_zero win0_4 t 1 ((idx t).2.2.2.2.1 1) (ix3 y0 y1 y2)
    omega
  · show ((win0_4.rect t).emb (ix3 y0 y1 y2) 2 : Nat) = y2.val
    exact Pipeline.Window.rect_emb_val_of_index_zero win0_4 t 2 ((idx t).2.2.2.2.1 2) (ix3 y0 y1 y2)

/-- The keys array after the run. -/
theorem keys_final (c : Dev nD) : (dats m 0 c).arrAt 5 (cfgs 0).N = KO (UU m c) := by
  refine (dats m 0 c).arrAt_eq_of_covers 5 _ (by decide +kernel) fun t hf y => ?_
  blk_simp
  rw [after0_5, blk0, blk1, blk2, blk3]
  frame_out
  idx_vars y
  rw [pay9_eq]
  pointwise [k0_pay2, KO]
  refine qkv_at _ _ _ _ _ _ _ ?_ _ _ ?_
  · show y1.val = (win0_5.rect t).emb (ix3 y0 y1 y2) 1 / 4 * 4 + (win0_5.rect t).emb (ix3 y0 y1 y2) 1 % 4
    have h : ((win0_5.rect t).emb (ix3 y0 y1 y2) 1 : Nat) = y1.val := Pipeline.Window.rect_emb_val_of_index_zero win0_5 t 1 ((idx t).2.2.2.2.2.1 1) (ix3 y0 y1 y2)
    omega
  · show 512 + ((win0_5.rect t).emb (ix3 y0 y1 y2) 2 : Nat) = 512 + y2.val
    exact congrArg (512 + ·) (Pipeline.Window.rect_emb_val_of_index_zero win0_5 t 2 ((idx t).2.2.2.2.2.1 2) (ix3 y0 y1 y2))

/-- The values array after the run. -/
theorem values_final (c : Dev nD) : (dats m 0 c).arrAt 6 (cfgs 0).N = VO (UU m c) := by
  refine (dats m 0 c).arrAt_eq_of_covers 6 _ (by decide +kernel) fun t hf y => ?_
  blk_simp
  rw [after0_6, blk0, blk1, blk2, blk3]
  frame_out
  idx_vars y
  rw [pay9_eq]
  pointwise [k0_pay3, VO]
  refine qkv_at _ _ _ _ _ _ _ ?_ _ _ ?_
  · show y1.val = (win0_6.rect t).emb (ix3 y0 y1 y2) 1 / 4 * 4 + (win0_6.rect t).emb (ix3 y0 y1 y2) 1 % 4
    have h : ((win0_6.rect t).emb (ix3 y0 y1 y2) 1 : Nat) = y1.val := Pipeline.Window.rect_emb_val_of_index_zero win0_6 t 1 ((idx t).2.2.2.2.2.2.1 1) (ix3 y0 y1 y2)
    omega
  · show 1024 + ((win0_6.rect t).emb (ix3 y0 y1 y2) 2 : Nat) = 1024 + y2.val
    exact congrArg (1024 + ·) (Pipeline.Window.rect_emb_val_of_index_zero win0_6 t 2 ((idx t).2.2.2.2.2.2.1 2) (ix3 y0 y1 y2))

/-- The tail array after the run. -/
theorem tail_final (c : Dev nD) : (dats m 0 c).arrAt 7 (cfgs 0).N = PO (UU m c) := by
  refine (dats m 0 c).arrAt_eq_of_covers 7 _ (by decide +kernel) fun t hf y => ?_
  blk_simp
  rw [after0_7, blk0, blk1, blk2, blk3]
  frame_out
  idx_vars y
  pointwise [k0_pay4, PO]
  refine u_at _ _ _ _ _ _ _ ?_ _ _ ?_
  · show y1.val = (win0_7.rect t).emb (ix3 y0 y1 y2) 1 / 4 * 4 + (win0_7.rect t).emb (ix3 y0 y1 y2) 1 % 4
    have h : ((win0_7.rect t).emb (ix3 y0 y1 y2) 1 : Nat) = y1.val := Pipeline.Window.rect_emb_val_of_index_zero win0_7 t 1 ((idx t).2.2.2.2.2.2.2 1) (ix3 y0 y1 y2)
    omega
  · show 1536 + ((win0_7.rect t).emb (ix3 y0 y1 y2) 2 : Nat) = 1536 + y2.val
    exact congrArg (1536 + ·) (Pipeline.Window.rect_emb_val_of_index_zero win0_7 t 2 ((idx t).2.2.2.2.2.2.2 2) (ix3 y0 y1 y2))

/-- The rows of the pooling input, regrouped by sequence, are the projection's last columns. -/
theorem regroup (u : FVec Ideal Cert.Reference3Ideal.S32x4x2048 .f32) :
    shapeCast S32x4x512 (PO u) shapeCasts_S1x128x512_S32x4x512 = extractStridedSlice S32x4x512 ![0, 0, 1536] u Cert.Reference3Ideal.Gen.slices_S32x4x2048_S32x4x512_0_0_1536 := by
  funext y
  idx_vars y
  pointwise [PO]

/-- The new pooling state after the host lines that follow the call. -/
theorem state_final (c : Dev nD) : Pipeline.afterTail₀ cfgs (dats m) 0 (V0 m) [hostOps1] c main_v11 = TO (m ((c : Thread nD τ).loc main_arg4)) (UU m c) := by
  have h : Pipeline.withArrays (cfgs 0).spec c (V0 m c) (fun w => (dats m 0 c).arrAt w (cfgs 0).N) (Proc.devRef .tc main_v6_3) = PO (UU m c) :=
    (Pipeline.withArrays_arr spec0 launch0.win.arr_inj c (V0 m c) _ 7).trans (tail_final m c)
  have h4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  simp only [List.flatten_cons, List.flatten_nil, List.append_nil]
  after_results
  rw [h, h4]
  exact congrArg (fun z => broadcastInDim S1x32x15x512 ![1, 2, 3] bcast_S32x15x512_S1x32x15x512_1_2_3 (extractStridedSlice S32x15x512 ![0, 4, 0]
    (concatenate S32x19x512 1 [⟨S32x15x512, shapeCast S32x15x512 (m ((c : Thread nD τ).loc main_arg4)) shapeCasts_S1x32x15x512_S32x15x512⟩, ⟨S32x4x512, z⟩]
      concatenates_S32x15x512_S32x4x512_S32x19x512_d1) slices_S32x19x512_S32x15x512_0_4_0)) (regroup (UU m c))

end Cert.Kernel3Ideal.Proj

namespace Cert.Proof

open Cert.Kernel3Ideal Cert.Kernel3Ideal.Gen Cert.Kernel3Ideal.Proj TcCoe in
/-- The sample projection ends with its four arrays at the reference's and its arguments as they were. -/
theorem sample_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v6_0) = Cert.Reference3Ideal.Value.QO (UU m c)
      ∧ r.2.mem ((c : Thread nD τ).loc main_v6_1) = Cert.Reference3Ideal.Value.KO (UU m c)
      ∧ r.2.mem ((c : Thread nD τ).loc main_v6_2) = Cert.Reference3Ideal.Value.VO (UU m c)
      ∧ r.2.mem ((c : Thread nD τ).loc main_v11) = Cert.Reference3Ideal.Value.TO (m ((c : Thread nD τ).loc main_arg4)) (UU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨((h.1 c).1 4).trans (queries_final m c), ((h.1 c).1 5).trans (keys_final m c), ((h.1 c).1 6).trans (values_final m c),
      ((h.1 c).2 main_v11 (Pipeline.mem_restRefs_of main_v11 (by decide) (by decide))).trans (state_final m c), h.2 c⟩)
    (θ_run_and (run_main m g) (Cert.Kernel3Ideal.Gen.unchanged m g))

open TcCoe in
/-- The sample projection computes its reference over the reals. -/
theorem algebraic_sample : Cert.algebraic_Kernel3Ideal_Reference3Ideal (hKernel3Ideal := Cert.Kernel3Ideal.Gen.facts) (hReference3Ideal := Cert.Reference3Ideal.Gen.facts) := by
  intro m g m' g' _ hagree
  refine ⟨_, _, _, _, sample_run m g, ?_⟩
  refine (θ_run Cert.Reference3Ideal.defs _ _).mono (fun r h c => ?_) (Cert.Reference3Ideal.Value.run m' g')
  obtain ⟨h0, h1, h2, h3, h4⟩ := hagree c
  have e : Cert.Reference3Ideal.Value.U (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) = Cert.Kernel3Ideal.Proj.UU m c := by
    unfold Cert.Kernel3Ideal.Proj.UU
    rw [h0, h1, h2, h3]
  exact ⟨(h c).1.trans (congrArg Cert.Reference3Ideal.Value.QO e), (h c).2.1.trans (congrArg Cert.Reference3Ideal.Value.KO e), (h c).2.2.1.trans (congrArg Cert.Reference3Ideal.Value.VO e), (h c).2.2.2.1.trans (congrArg₂ Cert.Reference3Ideal.Value.TO h4 e), (h c).2.2.2.2⟩

/-- The sample projection's reference leaves its arguments as they were and no semaphore counted. -/
theorem sample_reference_frame : Cert.quiescent_Reference3Ideal (hReference3Ideal := Cert.Reference3Ideal.Gen.facts) := by
  intro m g _
  refine (θ_run Cert.Reference3Ideal.defs _ _).mono (fun r h => ?_) (Cert.Reference3Ideal.Value.run m g)
  exact ⟨fun c => (h c).2.2.2.2, sem_eq_zero_of_no_sems (by decide) _⟩

end Cert.Proof

end
-- ==== Proof.Ada.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.Reference4Ideal.Value

open Cert.Reference4Ideal Cert.Reference4Ideal.Gen

/-- The conditioning rows of both batches. -/
def CC (A0 : FVec Ideal S16x1024 .f32) (A1 : FVec Ideal S32x1024 .f32) : FVec Ideal S48x1024 .f32 :=
  concatenate S48x1024 0 [⟨S16x1024, A0⟩, ⟨S32x1024, A1⟩] concatenates_S16x1024_S32x1024_S48x1024_d0

/-- The modulation rows. -/
def ADA (C : FVec Ideal S48x1024 .f32) (A2 : FVec Ideal S1x1024x6144 .f32) (A3 : FVec Ideal S1x6144 .f32) : FVec Ideal S48x6144 .f32 :=
  addf (Host.dotGeneral dot_S48x1024_S1024x6144_S48x6144_1_0_0_1_n_n none (mulf C (Host.divf (broadcastInDim S48x1024 ![] bcast_S_S48x1024 (constant S_ .f32 0x3F800000#32)) (addf (broadcastInDim S48x1024 ![] bcast_S_S48x1024 (constant S_ .f32 0x3F800000#32)) (Host.exp (Host.negf C)))))
      (shapeCast S1024x6144 A2 shapeCasts_S1x1024x6144_S1024x6144))
    (broadcastInDim S48x6144 ![0, 1] bcast_S1x6144_S48x6144_0_1 (broadcastInDim S1x6144 ![1] bcast_S6144_S1x6144_1 (shapeCast S6144 A3 shapeCasts_S1x6144_S6144)))

end Cert.Reference4Ideal.Value

namespace Cert.Kernel4Ideal.Ada

open Cert.Kernel4Ideal Cert.Kernel4Ideal.Gen
open Cert.Reference4Ideal.Value (CC ADA)

variable (m : (ℓ : Loc nD τ sig) → Buf (Elt Ideal) ℓ)

/-- One more than an exponential is not zero. -/
theorem one_add_exp_ne (x : EReal) : (1 : EReal) + Ideal.exp x ≠ 0 := by
  have h : (0 : EReal) ≤ Ideal.exp x := by
    induction x with
    | bot => exact le_refl _
    | top => exact le_top
    | coe r => exact EReal.coe_nonneg.mpr (Real.exp_pos r).le
  have h1 : (1 : EReal) ≤ 1 + Ideal.exp x := le_add_of_nonneg_right h
  exact (lt_of_lt_of_le zero_lt_one h1).ne'

/-- The block index of every window. -/
theorem idx : ∀ t : Fin cfg0.N, win0_0.index t = ![0, 0] ∧ win0_1.index t = ![0, 0, t.val] ∧ win0_2.index t = ![0, t.val] ∧ win0_3.index t = ![0, t.val] :=
  (by decide +kernel : ∀ t : Fin grid0.N, _)

/-- The conditioning rows of the launch's arguments. -/
abbrev C (c : Dev nD) : FVec Ideal Cert.Reference4Ideal.S48x1024 .f32 := CC (m ((c : Thread nD τ).loc main_arg0)) (m ((c : Thread nD τ).loc main_arg1))

/-- The array that the call reads its rows from. -/
theorem val_v0 (c : Dev nD) : V m c main_v0 = C m c := rfl

/-- The modulation rows' array after the run. -/
theorem ada_final (c : Dev nD) : (dats m 0 c).arrAt 3 (cfgs 0).N = ADA (C m c) (m ((c : Thread nD τ).loc main_arg2)) (m ((c : Thread nD τ).loc main_arg3)) := by
  refine (dats m 0 c).arrAt_eq_of_covers 3 _ (by decide +kernel) fun t hf y => ?_
  blk_simp
  rw [after0_3]
  frame_out
  idx_vars y
  pointwise [k0_pay1, ADA]
  simp only [Ideal.mul_one_div (one_add_exp_ne _), zero_sub, ← val_v0]
  blk_point [iblk, V, idx t]

end Cert.Kernel4Ideal.Ada

namespace Cert.Proof

open TcCoe in
/-- The modulation call computes its reference over the reals. -/
theorem algebraic_ada : Cert.algebraic_Kernel4Ideal_Reference4Ideal (hKernel4Ideal := Cert.Kernel4Ideal.Gen.facts) (hReference4Ideal := Cert.Reference4Ideal.Gen.facts) := by
  intro m g m' g' _ hagree
  refine ⟨_, (θ_run Cert.Kernel4Ideal.defs _ _).mono (fun r h c => ⟨(h c).1.trans (Cert.Kernel4Ideal.Ada.ada_final m c), (h c).2⟩) (Cert.Kernel4Ideal.Value.run_blocks m g), ?_⟩
  refine (θ_run Cert.Reference4Ideal.defs _ _).mono (fun r h c => ?_) (Cert.Reference4Ideal.Value.run m' g')
  obtain ⟨h0, h1, h2, h3⟩ := hagree c
  have e : Cert.Reference4Ideal.Value.ADA (Cert.Reference4Ideal.Value.CC (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) = Cert.Reference4Ideal.Value.ADA (Cert.Kernel4Ideal.Ada.C m c) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) := by
    unfold Cert.Kernel4Ideal.Ada.C
    rw [h0, h1, h2, h3]
  exact ⟨(h c).1.trans e, (h c).2⟩

/-- The modulation call's reference leaves its arguments as they were and no semaphore counted. -/
theorem ada_reference_frame : Cert.quiescent_Reference4Ideal (hReference4Ideal := Cert.Reference4Ideal.Gen.facts) := by
  intro m g _
  refine (θ_run Cert.Reference4Ideal.defs _ _).mono (fun r h => ?_) (Cert.Reference4Ideal.Value.run m g)
  exact ⟨fun c => (h c).2, sem_eq_zero_of_no_sems (by decide) _⟩

end Cert.Proof

end
-- ==== Proof.OutRefP.lean ====
module

public import proofs.«01_k».proof.Proof.Gen.Reference5Ideal.Run
public import Idealize.ShloMosaic.Lib.Pointwise

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- The last four of the six modulation rows of each sequence. -/
def MODS (M : FVec Ideal S16x1x6144 .f32) : FVec Ideal S16x1x4096 .f32 :=
  extractStridedSlice S16x1x4096 ![0, 0, 2048] M slices_S16x1x6144_S16x1x4096_0_0_2048

/-- One modulation row spread over the tokens of its sequence. -/
def SPREAD (r : FVec Ideal S16x1x1024 .f32) : FVec Ideal S16x2048x1024 .f32 :=
  broadcastInDim S16x2048x1024 ![0, 1, 2] bcast_S16x1x1024_S16x2048x1024_0_1_2 r

/-- The gated mix added to the tokens. -/
def X1 (A0 : FVec Ideal S16x2048x1024 .f32) (A1 A2 : FVec Ideal S16x2048x512 .bf16) (A3 : FVec Ideal S16x1x6144 .f32) (A6 : FVec Ideal S1x1024x1024 .f32) : FVec Ideal S16x2048x1024 .f32 :=
  addf A0 (mulf (SPREAD (extractStridedSlice S16x1x1024 ![0, 0, 0] (MODS A3) slices_S16x1x4096_S16x1x1024_0_0_0))
    (Host.dotGeneral dot_S16x2048x1024_S1024x1024_S16x2048x1024_2_0_01_1_n_n none
      (extf .f32 (concatenate S16x2048x1024 2 [⟨S16x2048x512, A1⟩, ⟨S16x2048x512, A2⟩] concatenates_S16x2048x512_S16x2048x512_S16x2048x1024_d2 : FVec Ideal S16x2048x1024 .bf16) bitsLt_bf16_f32)
      (shapeCast S1024x1024 A6 shapeCasts_S1x1024x1024_S1024x1024)))

/-- The root mean square norm with its gains. -/
def RMS (X : FVec Ideal S16x2048x1024 .f32) (g : FVec Ideal S1024 .f32) : FVec Ideal S16x2048x1024 .f32 :=
  mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The MLP's input: the norm, scaled and shifted by the modulation rows. -/
def HID (X : FVec Ideal S16x2048x1024 .f32) (A3 : FVec Ideal S16x1x6144 .f32) (A4 : FVec Ideal S1x1024 .f32) : FVec Ideal S16x2048x1024 .f32 :=
  addf (mulf (RMS X (shapeCast S1024 A4 shapeCasts_S1x1024_S1024))
      (SPREAD (addf (broadcastInDim S16x1x1024 ![] bcast_S_S16x1x1024 (constant S_ .f32 0x3F800000#32)) (extractStridedSlice S16x1x1024 ![0, 0, 2048] (MODS A3) slices_S16x1x4096_S16x1x1024_0_0_2048))))
    (SPREAD (extractStridedSlice S16x1x1024 ![0, 0, 1024] (MODS A3) slices_S16x1x4096_S16x1x1024_0_0_1024))

/-- The positive part of the MLP's first map. -/
def UP (H : FVec Ideal S16x2048x1024 .f32) (A7 : FVec Ideal S1x1024x4096 .f32) : FVec Ideal S16x2048x4096 .f32 :=
  maximumf (Host.dotGeneral dot_S16x2048x1024_S1024x4096_S16x2048x4096_2_0_01_1_n_n none H (shapeCast S1024x4096 A7 shapeCasts_S1x1024x4096_S1024x4096)) (broadcastInDim S16x2048x4096 ![] bcast_S_S16x2048x4096 (constant S_ .f32 0x00000000#32))

/-- The gated MLP added to its input. -/
def X2 (X : FVec Ideal S16x2048x1024 .f32) (T : FVec Ideal S16x2048x4096 .f32) (A3 : FVec Ideal S16x1x6144 .f32) (A8 : FVec Ideal S1x4096x1024 .f32) : FVec Ideal S16x2048x1024 .f32 :=
  addf X (mulf (SPREAD (extractStridedSlice S16x1x1024 ![0, 0, 3072] (MODS A3) slices_S16x1x4096_S16x1x1024_0_0_3072))
    (Host.dotGeneral dot_S16x2048x4096_S4096x1024_S16x2048x1024_2_0_01_1_n_n none (mulf T T) (shapeCast S4096x1024 A8 shapeCasts_S1x4096x1024_S4096x1024)))

/-- The layer's end: output map, gate, MLP, final norm. -/
def Y (A0 : FVec Ideal S16x2048x1024 .f32) (A1 A2 : FVec Ideal S16x2048x512 .bf16) (A3 : FVec Ideal S16x1x6144 .f32) (A4 : FVec Ideal S1x1024 .f32) (A5 : FVec Ideal S1024 .f32)
    (A6 : FVec Ideal S1x1024x1024 .f32) (A7 : FVec Ideal S1x1024x4096 .f32) (A8 : FVec Ideal S1x4096x1024 .f32) : FVec Ideal S16x2048x1024 .f32 :=
  RMS (X2 (X1 A0 A1 A2 A3 A6) (UP (HID (X1 A0 A1 A2 A3 A6) A3 A4) A7) A3 A8) A5

/-- The reference's result by these names. -/
theorem res_eq (m : (ℓ : Loc nD τ sig) → Buf (Elt Ideal) ℓ) (c : Dev nD) :
    res_main_v54 m c = Y (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rfl

end Cert.Reference5Ideal.Value
-- ==== Proof.OutTileP.lean ====
module

public import proofs.«01_k».proof.Proof.Gen.Kernel5Ideal.Frame
public import Idealize.ShloMosaic.Lib.Pipeline.ValueKit
public import Idealize.ShloMosaic.Lib.Claim
public import proofs.«01_k».proof.Proof.OutRefP

@[expose] public section

set_option maxRecDepth 16384

noncomputable section

open Idealize.ShloMosaic Idealize.ShloMosaic.TcCoe Idealize.SL.Sem
open Idealize.ShloMosaic.Pipeline (Dat)

namespace Cert.Kernel5Ideal.OutTileP

open Cert.Kernel5Ideal Cert.Kernel5Ideal.Gen
open Cert.Reference5Ideal.Value (X1 RMS HID UP X2 Y MODS SPREAD)

set_option maxHeartbeats 1000000

variable (m : (ℓ : Loc nD τ sig) → Buf (Elt Ideal) ℓ)

/-- The prefetched table restricts nothing: no block is read through it. -/
theorem ok : Ok m := trivial

/-- The output map of a row: the gated mix added to the tokens. -/
theorem x1_at (x : FVec Ideal S1x256x1024 .f32) (v2 : FVec Ideal S1x1x1024 .f32) (a q : FVec Ideal S1x256x512 .bf16) (w w' : FVec Ideal S512x1024 .bf16)
    (A0 : FVec Ideal S16x2048x1024 .f32) (A1 A2 : FVec Ideal S16x2048x512 .bf16) (A3 : FVec Ideal S16x1x6144 .f32) (A6 : FVec Ideal S1x1024x1024 .f32)
    (p : Fin 256) (b : Fin 16) (s : Fin 2048)
    (hx : ∀ j, x (ix3 0 p j) = A0 (ix3 b s j)) (ha : ∀ j, a (ix3 0 p j) = A1 (ix3 b s j)) (hq : ∀ j, q (ix3 0 p j) = A2 (ix3 b s j))
    (h2 : ∀ j : Fin 1024, v2 (ix3 0 0 j) = A3 (ix3 b 0 ⟨2048 + j.val, by omega⟩))
    (hw : ∀ (k : Fin 512) j, w (ix2 k j) = A6 (ix3 0 ⟨k.val, by omega⟩ j)) (hw' : ∀ (k : Fin 512) j, w' (ix2 k j) = A6 (ix3 0 ⟨512 + k.val, by omega⟩ j)) (j : Fin 1024) :
    k0_pay5 x v2 a w q w' (ix2 p j) = X1 A0 A1 A2 A3 A6 (ix3 b s j) := by
  pointwise [k0_pay5, X1, SPREAD, MODS]
  simp only [hx, ha, hq, h2, hw, hw']

/-- A row's end from its output map on: norm, MLP, gate, final norm. -/
theorem y_at (v5 v7 v9 : FVec Ideal S1x1024 .f32) (v22 : FVec Ideal S256x1024 .f32) (v23 : FVec Ideal S1x1024 .f32) (v26 : FVec Ideal S256x1 .f32) (wu : FVec Ideal S1024x4096 .bf16) (wd : FVec Ideal S4096x1024 .bf16) (gf : FVec Ideal S1x1024 .f32)
    (X : FVec Ideal S16x2048x1024 .f32) (A3 : FVec Ideal S16x1x6144 .f32) (A5 : FVec Ideal Cert.Reference5Ideal.S1024 .f32)
    (A7 : FVec Ideal Cert.Reference5Ideal.S1x1024x4096 .f32) (A8 : FVec Ideal Cert.Reference5Ideal.S1x4096x1024 .f32)
    (p : Fin 256) (b : Fin 16) (s : Fin 2048)
    (hX : ∀ j, v22 (ix2 p j) = X (ix3 b s j)) (hq : v26 (ix2 p 0) = ∑ k, v22 (ix2 p k) * v22 (ix2 p k))
    (h5 : ∀ j : Fin 1024, v5 (ix2 0 j) = A3 (ix3 b 0 ⟨3072 + j.val, by omega⟩)) (h7 : ∀ j : Fin 1024, v7 (ix2 0 j) = A3 (ix3 b 0 ⟨4096 + j.val, by omega⟩))
    (h9 : ∀ j : Fin 1024, v9 (ix2 0 j) = A3 (ix3 b 0 ⟨5120 + j.val, by omega⟩))
    (hu : ∀ k j, wu (ix2 k j) = A7 (ix3 0 k j)) (hd : ∀ k j, wd (ix2 k j) = A8 (ix3 0 k j)) (hf : ∀ j, gf (ix2 0 j) = A5 (ix1 j)) (j : Fin 1024) :
    k0_pay7 v5 v7 v9 v22 v23 v26 wu wd gf (ix2 p j) = RMS (X2 X (UP (HID X A3 v23) A7) A3 A8) A5 (ix3 b s j) := by
  have hid : ∀ k : Fin 1024, HID X A3 v23 (ix3 b s k) =
      v22 (ix2 p k) * Ideal.rsqrt (Ideal.div (v26 (ix2 p 0)) (Ideal.ofBits FTy.f32 1149239296#32) + Ideal.ofBits FTy.f32 897988541#32) * (v23 (ix2 0 k) * (1 + v7 (ix2 0 k))) + v5 (ix2 0 k) := by
    intro k
    rw [h5, h7, hq]
    simp only [hX]
    pointwise [HID, RMS, SPREAD, MODS]
    rw [mul_assoc (_ * _)]
    congr 4
    · exact congrArg A3 (congrArg (ix3 b 0) (Fin.ext (show 2048 + (2048 + k.val) = 4096 + k.val by omega)))
    · omega
  have hx2 : ∀ k : Fin 1024, X2 X (UP (HID X A3 v23) A7) A3 A8 (ix3 b s k) =
      v22 (ix2 p k) + v9 (ix2 0 k) * ∑ x, max (∑ y, HID X A3 v23 (ix3 b s y) * wu (ix2 y x)) 0 * max (∑ y, HID X A3 v23 (ix3 b s y) * wu (ix2 y x)) 0 * wd (ix2 x k) := by
    intro k
    rw [h9]
    simp only [hX, hu, hd]
    pointwise [X2, UP, SPREAD, MODS]
    congr 2
    exact congrArg A3 (congrArg (ix3 b 0) (Fin.ext (by first | omega | (simp; omega))))
  have key : RMS (X2 X (UP (HID X A3 v23) A7) A3 A8) A5 (ix3 b s j) = X2 X (UP (HID X A3 v23) A7) A3 A8 (ix3 b s j)
      * Ideal.rsqrt (Ideal.div (∑ x, X2 X (UP (HID X A3 v23) A7) A3 A8 (ix3 b s x) * X2 X (UP (HID X A3 v23) A7) A3 A8 (ix3 b s x)) (Ideal.ofBits FTy.f32 1149239296#32) + Ideal.ofBits FTy.f32 897988541#32) * A5 (ix1 j) := by
    pointwise [RMS]
  rw [key]
  simp only [hx2, hid, ← hf]
  pointwise [k0_pay7]

/-- The whole tile over the window's blocks: rows of sequence `b` from row `o` on. -/
theorem tile_at (x : FVec Ideal S1x256x1024 .f32) (a q : FVec Ideal S1x256x512 .bf16) (md : FVec Ideal S1x1x6144 .f32) (gm gf : FVec Ideal S1x1024 .f32) (wo : FVec Ideal S1024x1024 .bf16)
    (wu : FVec Ideal S1024x4096 .bf16) (wd : FVec Ideal S4096x1024 .bf16)
    (A0 : FVec Ideal S16x2048x1024 .f32) (A1 A2 : FVec Ideal S16x2048x512 .bf16) (A3 : FVec Ideal S16x1x6144 .f32) (A5 : FVec Ideal Cert.Reference5Ideal.S1024 .f32) (A6 : FVec Ideal S1x1024x1024 .f32)
    (A7 : FVec Ideal Cert.Reference5Ideal.S1x1024x4096 .f32) (A8 : FVec Ideal Cert.Reference5Ideal.S1x4096x1024 .f32) (b : Fin 16) (s : Fin 256 → Fin 2048)
    (hx : ∀ p j, x (ix3 0 p j) = A0 (ix3 b (s p) j)) (ha : ∀ p j, a (ix3 0 p j) = A1 (ix3 b (s p) j)) (hq : ∀ p j, q (ix3 0 p j) = A2 (ix3 b (s p) j))
    (hmd : ∀ j, md (ix3 0 0 j) = A3 (ix3 b 0 j))
    (ho : ∀ k j, wo (ix2 k j) = A6 (ix3 0 k j)) (hu : ∀ k j, wu (ix2 k j) = A7 (ix3 0 k j)) (hd : ∀ k j, wd (ix2 k j) = A8 (ix3 0 k j)) (hf : ∀ j, gf (ix2 0 j) = A5 (ix1 j)) (y : S1x256x1024.Idx) :
    k0_pay1 (k0_pay7 (k0_pay2 (View.ld md (Rect.unit (s := S1x1x6144) ![0, 0, 3072] ![1, 1, 1024] inb_S1x1x6144_S1x1x1024_0_0_3072)))
        (k0_pay3 (View.ld md (Rect.unit (s := S1x1x6144) ![0, 0, 4096] ![1, 1, 1024] inb_S1x1x6144_S1x1x1024_0_0_4096)))
        (k0_pay4 (View.ld md (Rect.unit (s := S1x1x6144) ![0, 0, 5120] ![1, 1, 1024] inb_S1x1x6144_S1x1x1024_0_0_5120)))
        (k0_pay5 x (View.ld md (Rect.unit (s := S1x1x6144) ![0, 0, 2048] ![1, 1, 1024] inb_S1x1x6144_S1x1x1024_0_0_2048)) a
          (View.ld wo (Rect.unit (s := S1024x1024) ![0, 0] ![512, 1024] inb_S1024x1024_S512x1024_0_0)) q
          (View.ld wo (Rect.unit (s := S1024x1024) ![512, 0] ![512, 1024] inb_S1024x1024_S512x1024_512_0))) gm
        (k0_pay6 x (View.ld md (Rect.unit (s := S1x1x6144) ![0, 0, 2048] ![1, 1, 1024] inb_S1x1x6144_S1x1x1024_0_0_2048)) a
          (View.ld wo (Rect.unit (s := S1024x1024) ![0, 0] ![512, 1024] inb_S1024x1024_S512x1024_0_0)) q
          (View.ld wo (Rect.unit (s := S1024x1024) ![512, 0] ![512, 1024] inb_S1024x1024_S512x1024_512_0)))
        wu wd gf) y
      = Y A0 A1 A2 A3 gm A5 A6 A7 A8 (ix3 b (s (y 1)) (y 2)) := by
  idx_vars y
  show _ = Y A0 A1 A2 A3 gm A5 A6 A7 A8 (ix3 b (s y1) y2)
  pointwise [k0_pay1, Y]
  refine y_at _ _ _ _ _ _ _ _ _ (X1 A0 A1 A2 A3 A6) A3 A5 A7 A8 y1 b (s y1) (fun j => ?_) ?_ (fun j => ?_) (fun j => ?_) (fun j => ?_) hu hd hf y2
  · refine x1_at _ _ _ _ _ _ _ _ _ _ _ y1 b (s y1) (hx y1) (ha y1) (hq y1) (fun j => ?_) (fun k j => ?_) (fun k j => ?_) j
    · rw [← hmd]; pointwise
    · rw [← ho]; pointwise
    · rw [← ho]; pointwise
  · pointwise [k0_pay6]
  · rw [← hmd]; pointwise [k0_pay2]
  · rw [← hmd]; pointwise [k0_pay3]
  · rw [← hmd]; pointwise [k0_pay4]

/-- The windows of the gains and the weights read whole arrays. -/
theorem index0 (t : Fin (cfgM m (ok m)).N) (w : Fin 5) (a) : ((cfgM m (ok m)).win (Fin.castAdd 1 (Fin.natAdd 4 w))).index t a = 0 :=
  (by decide +kernel : ∀ t, ∀ w : Fin 5, ∀ a, ((cfgM (F := Ideal) (fun _ => Classical.arbitrary _) trivial).win (Fin.castAdd 1 (Fin.natAdd 4 w))).index t a = 0) t w a

/-- The block index of the windows that follow the grid: sequence `t / 8`, tile `t % 8`. -/
theorem index_t (t : Fin (cfgM m (ok m)).N) : ((cfgM m (ok m)).win 0).index t = ![t.val / 8, t.val % 8, 0] ∧ ((cfgM m (ok m)).win 1).index t = ![t.val / 8, t.val % 8, 0]
    ∧ ((cfgM m (ok m)).win 2).index t = ![t.val / 8, t.val % 8, 0] ∧ ((cfgM m (ok m)).win 3).index t = ![t.val / 8, 0, 0] ∧ ((cfgM m (ok m)).win 9).index t = ![t.val / 8, t.val % 8, 0] ∧ t.val / 8 < 16 :=
  (by decide +kernel : ∀ t : Fin (cfgM (F := Ideal) (fun _ => Classical.arbitrary _) trivial).N,
    ((cfgM (F := Ideal) (fun _ => Classical.arbitrary _) trivial).win 0).index t = ![t.val / 8, t.val % 8, 0] ∧ ((cfgM (F := Ideal) (fun _ => Classical.arbitrary _) trivial).win 1).index t = ![t.val / 8, t.val % 8, 0]
    ∧ ((cfgM (F := Ideal) (fun _ => Classical.arbitrary _) trivial).win 2).index t = ![t.val / 8, t.val % 8, 0] ∧ ((cfgM (F := Ideal) (fun _ => Classical.arbitrary _) trivial).win 3).index t = ![t.val / 8, 0, 0]
    ∧ ((cfgM (F := Ideal) (fun _ => Classical.arbitrary _) trivial).win 9).index t = ![t.val / 8, t.val % 8, 0] ∧ t.val / 8 < 16) t

/-- Window 9's blocks cover its array. -/
theorem covers9 : ((cfgM m (ok m)).win 9).Covers :=
  (by decide +kernel : ((cfgM (F := Ideal) (fun _ => Classical.arbitrary _) trivial).win 9).Covers)

/-- The sequence of a grid point. -/
def seq (t : Fin (cfgM m (ok m)).N) : Fin 16 := ⟨t.val / 8, (index_t m t).2.2.2.2.2⟩

/-- The row of a sequence at row `p` of a grid point's tile. -/
def row (t : Fin (cfgM m (ok m)).N) (p : Fin 256) : Fin 2048 := ⟨t.val % 8 * 256 + p.val, by omega⟩

/-- Window 0's block at an element. -/
theorem read0 (c : Dev nD) (t : Fin (cfgM m (ok m)).N) (p : Fin 256) (j) : View.read (Elt Ideal) (ms0_0 m (ok m) t).view ((hs0_0 m (ok m) t).unread (iblk m (ok m) c 0 t)) (ix3 0 p j)
    = V m c main_arg0 (ix3 (seq m t) (row m t p) j) := by
  refine (congrFun (Memref.IsWhole.read_unread _ _) _).trans (congrArg (V m c main_arg0) (funext fun a => Fin.ext ((Pipeline.Window.rect_emb_val ((cfgM m (ok m)).win 0) t (ix3 0 p j) a).trans ?_)))
  rw [(index_t m t).1]
  match a with
  | ⟨0, _⟩ => exact (show t.val / 8 * 1 + 0 = t.val / 8 by omega)
  | ⟨1, _⟩ => exact rfl
  | ⟨2, _⟩ => exact (show 0 * 1024 + j.val = j.val by omega)

/-- Window 1's block at an element. -/
theorem read1 (c : Dev nD) (t : Fin (cfgM m (ok m)).N) (p : Fin 256) (j) : View.read (Elt Ideal) (ms0_1 m (ok m) t).view ((hs0_1 m (ok m) t).unread (iblk m (ok m) c 1 t)) (ix3 0 p j)
    = V m c main_arg1 (ix3 (seq m t) (row m t p) j) := by
  refine (congrFun (Memref.IsWhole.read_unread _ _) _).trans (congrArg (V m c main_arg1) (funext fun a => Fin.ext ((Pipeline.Window.rect_emb_val ((cfgM m (ok m)).win 1) t (ix3 0 p j) a).trans ?_)))
  rw [(index_t m t).2.1]
  match a with
  | ⟨0, _⟩ => exact (show t.val / 8 * 1 + 0 = t.val / 8 by omega)
  | ⟨1, _⟩ => exact rfl
  | ⟨2, _⟩ => exact (show 0 * 512 + j.val = j.val by omega)

/-- Window 2's block at an element. -/
theorem read2 (c : Dev nD) (t : Fin (cfgM m (ok m)).N) (p : Fin 256) (j) : View.read (Elt Ideal) (ms0_2 m (ok m) t).view ((hs0_2 m (ok m) t).unread (iblk m (ok m) c 2 t)) (ix3 0 p j)
    = V m c main_arg2 (ix3 (seq m t) (row m t p) j) := by
  refine (congrFun (Memref.IsWhole.read_unread _ _) _).trans (congrArg (V m c main_arg2) (funext fun a => Fin.ext ((Pipeline.Window.rect_emb_val ((cfgM m (ok m)).win 2) t (ix3 0 p j) a).trans ?_)))
  rw [(index_t m t).2.2.1]
  match a with
  | ⟨0, _⟩ => exact (show t.val / 8 * 1 + 0 = t.val / 8 by omega)
  | ⟨1, _⟩ => exact rfl
  | ⟨2, _⟩ => exact (show 0 * 512 + j.val = j.val by omega)

/-- Window 3's block at an element. -/
theorem read3 (c : Dev nD) (t : Fin (cfgM m (ok m)).N) (p : Fin 1) (j) : View.read (Elt Ideal) (ms0_3 m (ok m) t).view ((hs0_3 m (ok m) t).unread (iblk m (ok m) c 3 t)) (ix3 0 p j)
    = V m c main_arg3 (ix3 (seq m t) p j) := by
  refine (congrFun (Memref.IsWhole.read_unread _ _) _).trans (congrArg (V m c main_arg3) (funext fun a => Fin.ext ((Pipeline.Window.rect_emb_val ((cfgM m (ok m)).win 3) t (ix3 0 p j) a).trans ?_)))
  rw [(index_t m t).2.2.2.1]
  match a with
  | ⟨0, _⟩ => exact (show t.val / 8 * 1 + 0 = t.val / 8 by omega)
  | ⟨1, _⟩ => exact (show 0 * 1 + p.val = p.val by omega)
  | ⟨2, _⟩ => exact (show 0 * 6144 + j.val = j.val by omega)

/-- Window 4's block is its array. -/
theorem read4 (c : Dev nD) (t : Fin (cfgM m (ok m)).N) : View.read (Elt Ideal) (ms0_4 m (ok m) t).view ((hs0_4 m (ok m) t).unread (iblk m (ok m) c 4 t)) = V m c main_arg4 :=
  (Memref.IsWhole.read_unread _ _).trans (funext fun x => congrArg (V m c main_arg4) (funext fun a => Fin.ext (Pipeline.Window.rect_emb_val_of_index_zero _ _ _ (index0 m t 0 a) x)))

/-- Window 5's block is its array. -/
theorem read5 (c : Dev nD) (t : Fin (cfgM m (ok m)).N) : View.read (Elt Ideal) (ms0_5 m (ok m) t).view ((hs0_5 m (ok m) t).unread (iblk m (ok m) c 5 t)) = V m c main_v6 :=
  (Memref.IsWhole.read_unread _ _).trans (funext fun x => congrArg (V m c main_v6) (funext fun a => Fin.ext (Pipeline.Window.rect_emb_val_of_index_zero _ _ _ (index0 m t 1 a) x)))

/-- Window 6's block is its array. -/
theorem read6 (c : Dev nD) (t : Fin (cfgM m (ok m)).N) : View.read (Elt Ideal) (ms0_6 m (ok m) t).view ((hs0_6 m (ok m) t).unread (iblk m (ok m) c 6 t)) = V m c main_v1 :=
  (Memref.IsWhole.read_unread _ _).trans (funext fun x => congrArg (V m c main_v1) (funext fun a => Fin.ext (Pipeline.Window.rect_emb_val_of_index_zero _ _ _ (index0 m t 2 a) x)))

/-- Window 7's block is its array. -/
theorem read7 (c : Dev nD) (t : Fin (cfgM m (ok m)).N) : View.read (Elt Ideal) (ms0_7 m (ok m) t).view ((hs0_7 m (ok m) t).unread (iblk m (ok m) c 7 t)) = V m c main_v3 :=
  (Memref.IsWhole.read_unread _ _).trans (funext fun x => congrArg (V m c main_v3) (funext fun a => Fin.ext (Pipeline.Window.rect_emb_val_of_index_zero _ _ _ (index0 m t 3 a) x)))

/-- Window 8's block is its array. -/
theorem read8 (c : Dev nD) (t : Fin (cfgM m (ok m)).N) : View.read (Elt Ideal) (ms0_8 m (ok m) t).view ((hs0_8 m (ok m) t).unread (iblk m (ok m) c 8 t)) = V m c main_v5 :=
  (Memref.IsWhole.read_unread _ _).trans (funext fun x => congrArg (V m c main_v5) (funext fun a => Fin.ext (Pipeline.Window.rect_emb_val_of_index_zero _ _ _ (index0 m t 4 a) x)))

/-- The array `v1` as a function of its argument. -/
def A_v1 (A : FVec Ideal S1x1024x1024 .f32) : FVec Ideal S1024x1024 .bf16 := truncf .bf16 (shapeCast S1024x1024 A shapeCasts_S1x1024x1024_S1024x1024) bitsLt_bf16_f32

/-- `A_v1` at an element. -/
theorem A_v1_at (A : FVec Ideal S1x1024x1024 .f32) (i : Fin 1024) (j : Fin 1024) : A_v1 A (ix2 i j) = A (ix3 0 i j) := by
  pointwise [A_v1]

/-- The array `v1` when the call begins. -/
theorem val_v1 (c : Dev nD) : V m c main_v1 = A_v1 (m ((c : Thread nD τ).loc main_arg6)) := rfl

/-- The array `v3` as a function of its argument. -/
def A_v3 (A : FVec Ideal S1x1024x4096 .f32) : FVec Ideal S1024x4096 .bf16 := truncf .bf16 (shapeCast S1024x4096 A shapeCasts_S1x1024x4096_S1024x4096) bitsLt_bf16_f32

/-- `A_v3` at an element. -/
theorem A_v3_at (A : FVec Ideal S1x1024x4096 .f32) (i : Fin 1024) (j : Fin 4096) : A_v3 A (ix2 i j) = A (ix3 0 i j) := by
  pointwise [A_v3]

/-- The array `v3` when the call begins. -/
theorem val_v3 (c : Dev nD) : V m c main_v3 = A_v3 (m ((c : Thread nD τ).loc main_arg7)) := rfl

/-- The array `v5` as a function of its argument. -/
def A_v5 (A : FVec Ideal S1x4096x1024 .f32) : FVec Ideal S4096x1024 .bf16 := truncf .bf16 (shapeCast S4096x1024 A shapeCasts_S1x4096x1024_S4096x1024) bitsLt_bf16_f32

/-- `A_v5` at an element. -/
theorem A_v5_at (A : FVec Ideal S1x4096x1024 .f32) (i : Fin 4096) (j : Fin 1024) : A_v5 A (ix2 i j) = A (ix3 0 i j) := by
  pointwise [A_v5]

/-- The array `v5` when the call begins. -/
theorem val_v5 (c : Dev nD) : V m c main_v5 = A_v5 (m ((c : Thread nD τ).loc main_arg8)) := rfl

/-- The array `v6` as a function of its argument. -/
def A_v6 (A : FVec Ideal S1024 .f32) : FVec Ideal S1x1024 .f32 := shapeCast S1x1024 A shapeCasts_S1024_S1x1024

/-- `A_v6` at an element. -/
theorem A_v6_at (A : FVec Ideal S1024 .f32) (j : Fin 1024) : A_v6 A (ix2 0 j) = A (ix1 j) := by
  pointwise [A_v6]

/-- The array `v6` when the call begins. -/
theorem val_v6 (c : Dev nD) : V m c main_v6 = A_v6 (m ((c : Thread nD τ).loc main_arg5)) := rfl

/-- Where window 9's block at a grid point lies in its array. -/
theorem emb9 (t : Fin (cfgM m (ok m)).N) (y : S1x256x1024.Idx) : (((cfgM m (ok m)).win 9).blk t).view.emb y = ix3 (seq m t) (row m t (y 1)) (y 2) := by
  refine funext fun a => Fin.ext ((Pipeline.Window.rect_emb_val ((cfgM m (ok m)).win 9) t y a).trans ?_)
  rw [(index_t m t).2.2.2.2.1]
  match a with
  | ⟨0, _⟩ => exact (show t.val / 8 * 1 + (y 0).val = t.val / 8 by have h : (y 0).val < 1 := (y 0).isLt; omega)
  | ⟨1, _⟩ => exact rfl
  | ⟨2, _⟩ => exact (show 0 * 1024 + (y 2).val = (y 2).val by omega)

/-- The output array after the run. -/
theorem out_final (c : Dev nD) : (dats m (ok m) 0 c).arrAt 9 (cfgM m (ok m)).N
    = Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m (ok m) 0 c).arrAt_eq_of_covers 9 _ (covers9 m) fun t hf y => ?_
  refine Eq.trans ?_ (congrArg (Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (emb9 m t y)).symm
  blk_simp
  rw [after0_9]; unfold outsAt0; frame_out
  rw [read4, read5, read6, read7, read8, V_main_arg4, val_v1, val_v3, val_v5, val_v6]
  exact tile_at _ _ _ _ (m ((c : Thread nD τ).loc main_arg4)) (A_v6 (m ((c : Thread nD τ).loc main_arg5))) (A_v1 (m ((c : Thread nD τ).loc main_arg6))) (A_v3 (m ((c : Thread nD τ).loc main_arg7))) (A_v5 (m ((c : Thread nD τ).loc main_arg8)))
    (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (seq m t) (row m t)
    (read0 m c t) (read1 m c t) (read2 m c t) (read3 m c t 0) (A_v1_at _) (A_v3_at _) (A_v5_at _) (A_v6_at _) y

end Cert.Kernel5Ideal.OutTileP
-- ==== Proof.OutP.lean ====
module

public import proofs.«01_k».proof.Defs
public import proofs.«01_k».proof.Proof.Gen.Kernel5.Frame
public import proofs.«01_k».proof.Proof.OutTileP

@[expose] public section

set_option maxRecDepth 16384
set_option maxHeartbeats 2000000

noncomputable section

namespace Cert.Proof

open Idealize.ShloMosaic Idealize.SL.Sem

open Cert.Kernel5Ideal Cert.Kernel5Ideal.Gen TcCoe in
/-- The output call at the prompt's shapes ends with its output array at the reference's rows and its arguments as they were. -/
theorem prompt_out_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v7) = (Cert.Reference5Ideal.Value.Y (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8)))) :=
  (θ_run defs _ _).mono (fun r h c => ((h c).1 9).trans (Cert.Kernel5Ideal.OutTileP.out_final m c)) (run_main m g (Cert.Kernel5Ideal.OutTileP.ok m))

/-- The output call at the prompt's shapes computes its reference over the reals. -/
theorem algebraic_prompt_out : Cert.algebraic_Kernel5Ideal_Reference5Ideal (hKernel5Ideal := Cert.Kernel5Ideal.Gen.facts) (hReference5Ideal := Cert.Reference5Ideal.Gen.facts) := by
  intro m g m' g' _ hagree
  refine ⟨_, (θ_run Cert.Kernel5Ideal.defs _ _).mono (fun r h c => ⟨h.1 c, h.2 c⟩) (θ_run_and (prompt_out_run m g) (Cert.Kernel5Ideal.Gen.unchanged m g (Cert.Kernel5Ideal.OutTileP.ok m))), ?_⟩
  refine (θ_run Cert.Reference5Ideal.defs _ _).mono (fun r h c => ⟨(h c).1.trans ?_, (h c).2⟩) (Cert.Reference5Ideal.Value.run m' g')
  obtain ⟨h0, h1, h2, h3, h4, h5, h6, h7, h8, h9⟩ := hagree c
  refine (Cert.Reference5Ideal.Value.res_eq m' c).trans ?_
  rw [h0, h1, h2, h3, h4, h5, h6, h7, h8]

/-- The output call at the prompt's shapes's reference leaves its arguments as they were and no semaphore counted. -/
theorem prompt_out_reference_frame : Cert.quiescent_Reference5Ideal (hReference5Ideal := Cert.Reference5Ideal.Gen.facts) := by
  intro m g _
  refine (θ_run Cert.Reference5Ideal.defs _ _).mono (fun r h => ?_) (Cert.Reference5Ideal.Value.run m g)
  exact ⟨fun c => (h c).2, sem_eq_zero_of_no_sems (by decide) _⟩

end Cert.Proof

end
-- ==== Proof.SamplePoolRef.lean ====
module

public import proofs.«01_k».proof.Proof.Gen.Reference6Ideal.Run
public import Idealize.ShloMosaic.Lib.Pointwise
public import proofs.«01_k».proof.Proof.Window

@[expose] public section

set_option maxRecDepth 16384

noncomputable section

open Idealize.ShloMosaic Idealize.ShloMosaic.TcCoe Idealize.SL.Sem

namespace Cert.Reference6Ideal.Value

open Cert.Reference6Ideal Cert.Reference6Ideal.Gen

/-- The sequences the sample pools: the 15 kept rows and the four new ones. -/
def UF (s : FVec Ideal S1x32x15x512 .f32) (u : FVec Ideal S1x128x512 .f32) : FVec Ideal S32x19x512 .f32 :=
  concatenate S32x19x512 1 [⟨S32x15x512, (shapeCast _ s shapeCasts_S1x32x15x512_S32x15x512)⟩, ⟨S32x4x512, (shapeCast _ u shapeCasts_S1x128x512_S32x4x512)⟩] concatenates_S32x15x512_S32x4x512_S32x19x512_d1

/-- The sample reference's difference of window mean and token, per group. -/
def DIFF (V : FVec Ideal S32x19x512 .f32) : FVec Ideal S32x19x4x128 .f32 :=
  ((concatenate S32x19x4x128 2 [⟨S32x19x1x128, ((broadcastInDim S32x19x1x128 ![0, 1, 3] bcast_S32x19x128_S32x19x1x128_0_1_3 (subf (Host.divf (Host.reduceWindowAdd ![1, 2, 1] ![1, 1, 1] ![0, 1, 0] ![0, 0, 0] (extractStridedSlice S32x19x128 ![0, 0, 0] V slices_S32x19x512_S32x19x128_0_0_0) (broadcastInDim S_ ![] bcast_S_S_ (constant S_ .f32 0x00000000#32)) reduceWindows_S32x19x128_S32x19x128_w1s1p0_0_w2s1p1_0_w1s1p0_0 h_S_) (broadcastInDim S32x19x128 ![0, 1, 2] bcast_S1x19x1_S32x19x128_0_1_2 (broadcastInDim S1x19x1 ![1] bcast_S19_S1x19x1_1 (sitofp .f32 (minsi (addi (addi (broadcastInDim S19 ![] bcast_S_S19 (constantI S_ 32 16369#32)) (iotaInDim S19 32 0)) (broadcastInDim S19 ![] bcast_S_S19 (constantI S_ 32 1#32))) (broadcastInDim S19 ![] bcast_S_S19 (constantI S_ 32 2#32))))))) (extractStridedSlice S32x19x128 ![0, 0, 0] V slices_S32x19x512_S32x19x128_0_0_0))))⟩, ⟨S32x19x1x128, ((broadcastInDim S32x19x1x128 ![0, 1, 3] bcast_S32x19x128_S32x19x1x128_0_1_3 (subf (Host.divf (Host.reduceWindowAdd ![1, 4, 1] ![1, 1, 1] ![0, 3, 0] ![0, 0, 0] (extractStridedSlice S32x19x128 ![0, 0, 128] V slices_S32x19x512_S32x19x128_0_0_128) (broadcastInDim S_ ![] bcast_S_S_ (constant S_ .f32 0x00000000#32)) reduceWindows_S32x19x128_S32x19x128_w1s1p0_0_w4s1p3_0_w1s1p0_0 h_S_) (broadcastInDim S32x19x128 ![0, 1, 2] bcast_S1x19x1_S32x19x128_0_1_2 (broadcastInDim S1x19x1 ![1] bcast_S19_S1x19x1_1 (sitofp .f32 (minsi (addi (addi (broadcastInDim S19 ![] bcast_S_S19 (constantI S_ 32 16369#32)) (iotaInDim S19 32 0)) (broadcastInDim S19 ![] bcast_S_S19 (constantI S_ 32 1#32))) (broadcastInDim S19 ![] bcast_S_S19 (constantI S_ 32 4#32))))))) (extractStridedSlice S32x19x128 ![0, 0, 128] V slices_S32x19x512_S32x19x128_0_0_128))))⟩, ⟨S32x19x1x128, ((broadcastInDim S32x19x1x128 ![0, 1, 3] bcast_S32x19x128_S32x19x1x128_0_1_3 (subf (Host.divf (Host.reduceWindowAdd ![1, 8, 1] ![1, 1, 1] ![0, 7, 0] ![0, 0, 0] (extractStridedSlice S32x19x128 ![0, 0, 256] V slices_S32x19x512_S32x19x128_0_0_256) (broadcastInDim S_ ![] bcast_S_S_ (constant S_ .f32 0x00000000#32)) reduceWindows_S32x19x128_S32x19x128_w1s1p0_0_w8s1p7_0_w1s1p0_0 h_S_) (broadcastInDim S32x19x128 ![0, 1, 2] bcast_S1x19x1_S32x19x128_0_1_2 (broadcastInDim S1x19x1 ![1] bcast_S19_S1x19x1_1 (sitofp .f32 (minsi (addi (addi (broadcastInDim S19 ![] bcast_S_S19 (constantI S_ 32 16369#32)) (iotaInDim S19 32 0)) (broadcastInDim S19 ![] bcast_S_S19 (constantI S_ 32 1#32))) (broadcastInDim S19 ![] bcast_S_S19 (constantI S_ 32 8#32))))))) (extractStridedSlice S32x19x128 ![0, 0, 256] V slices_S32x19x512_S32x19x128_0_0_256))))⟩, ⟨S32x19x1x128, ((broadcastInDim S32x19x1x128 ![0, 1, 3] bcast_S32x19x128_S32x19x1x128_0_1_3 (subf (Host.divf (Host.reduceWindowAdd ![1, 16, 1] ![1, 1, 1] ![0, 15, 0] ![0, 0, 0] (extractStridedSlice S32x19x128 ![0, 0, 384] V slices_S32x19x512_S32x19x128_0_0_384) (broadcastInDim S_ ![] bcast_S_S_ (constant S_ .f32 0x00000000#32)) reduceWindows_S32x19x128_S32x19x128_w1s1p0_0_w16s1p15_0_w1s1p0_0 h_S_) (broadcastInDim S32x19x128 ![0, 1, 2] bcast_S1x19x1_S32x19x128_0_1_2 (broadcastInDim S1x19x1 ![1] bcast_S19_S1x19x1_1 (sitofp .f32 (minsi (addi (addi (broadcastInDim S19 ![] bcast_S_S19 (constantI S_ 32 16369#32)) (iotaInDim S19 32 0)) (broadcastInDim S19 ![] bcast_S_S19 (constantI S_ 32 1#32))) (broadcastInDim S19 ![] bcast_S_S19 (constantI S_ 32 16#32))))))) (extractStridedSlice S32x19x128 ![0, 0, 384] V slices_S32x19x512_S32x19x128_0_0_384))))⟩] concatenates_S32x19x1x128_S32x19x1x128_S32x19x1x128_S32x19x1x128_S32x19x4x128_d2))

/-- The sample reference's pooled rows over its sequences. -/
def POOL (V : FVec Ideal S32x19x512 .f32) (Wp : FVec Ideal S1x4x128x128 .f32) (sc : FVec Ideal S1x512 .f32) : FVec Ideal S1x128x512 .bf16 :=
  truncf .bf16 (shapeCast _ (extractStridedSlice S32x4x512 ![0, 15, 0] (mulf (shapeCast _ (transpose S32x19x4x128 [2, 3, 0, 1] (Host.dotGeneral dot_S4x128x128_S32x19x4x128_S4x128x32x19_1_3_2_01_0_2 none (shapeCast _ Wp shapeCasts_S1x4x128x128_S4x128x128) (DIFF V)) transposes_S4x128x32x19_S32x19x4x128_2_3_0_1) shapeCasts_S32x19x4x128_S32x19x512) (broadcastInDim S32x19x512 ![0, 1, 2] bcast_S1x1x512_S32x19x512_0_1_2 (broadcastInDim S1x1x512 ![2] bcast_S512_S1x1x512_2 (shapeCast _ sc shapeCasts_S1x512_S512)))) slices_S32x19x512_S32x4x512_0_15_0) shapeCasts_S32x4x512_S1x128x512) bitsLt_bf16_f32

/-- Row `n` of a sequence's column, and zero where there is no such row. -/
def seq (V : FVec Ideal S32x19x512 .f32) (b : Fin 32) (j : Fin 512) (n : Nat) : EReal :=
  if h : n < 19 then V (ix3 b ⟨n, h⟩ j) else 0

/-- The window sum at one of the new rows, as the reference's padded window states it. -/
theorem window_eq (V : FVec Ideal S32x19x512 .f32) (b : Fin 32) (j : Fin 512) (r : Fin 19) (hr : 15 ≤ r.val) {w wm : Nat} (hw : wm + 1 = w) (h16 : w ≤ 16) :
    (∑ s : Fin w, if hs : wm ≤ r.val + s.val then V (ix3 b ⟨r.val + s.val - wm, by omega⟩ j) else 0) = Cert.Window.ws (seq V b j) w r.val := by
  have e : ∀ s : Fin w, (if hs : wm ≤ r.val + s.val then V (ix3 b ⟨r.val + s.val - wm, by omega⟩ j) else (0 : EReal))
      = seq V b j (r.val - (w - 1 - s.val)) := fun s => by
    unfold seq
    rw [dif_pos (by omega), dif_pos (by omega)]
    congr 3
    omega
  rw [Finset.sum_congr rfl fun s _ => e s, Fin.sum_univ_eq_sum_range (fun s => seq V b j (r.val - (w - 1 - s))) w]
  exact Finset.sum_range_reflect (fun s => seq V b j (r.val - s)) w

/-- The positions lie so far along that every window is full. -/
theorem counts : ∀ r : Fin 19, (IntOp.minsi (IntOp.addi (IntOp.addi 16369#32 (BitVec.ofNat 32 r.val)) 1#32) 2#32).toInt = 2
    ∧ (IntOp.minsi (IntOp.addi (IntOp.addi 16369#32 (BitVec.ofNat 32 r.val)) 1#32) 4#32).toInt = 4
    ∧ (IntOp.minsi (IntOp.addi (IntOp.addi 16369#32 (BitVec.ofNat 32 r.val)) 1#32) 8#32).toInt = 8
    ∧ (IntOp.minsi (IntOp.addi (IntOp.addi 16369#32 (BitVec.ofNat 32 r.val)) 1#32) 16#32).toInt = 16 := by
  decide +kernel

/-- A count read as a number. -/
theorem count_eq (x : BitVec 32) (n : Nat) (h : x.toInt = n) : (Scalar.sitofp .f32 x : Ideal .f32) = ((n : ℝ) : EReal) := by
  show ((x.toInt : ℝ) : EReal) = _
  rw [h]
  norm_cast

/-- Group 0 of the reference's differences: windows of 2 rows. -/
theorem DIFF_0 (V : FVec Ideal S32x19x512 .f32) (b : Fin 32) (r : Fin 19) (h : 15 ≤ r.val) (k : Fin 128) :
    DIFF V (ix4 b r 0 k) = Ideal.div (Cert.Window.ws (seq V b ⟨0 + k.val, by omega⟩) 2 r.val) (((2 : ℕ) : ℝ) : EReal) - V (ix3 b r ⟨0 + k.val, by omega⟩) := by
  rw [← window_eq V b ⟨0 + k.val, by omega⟩ r h (w := 2) rfl (by omega)]
  pointwise [DIFF]
  rw [Cert.Window.rows_sum rfl _ _ (by pointwise)]
  pointwise []
  exact congrArg (fun x => Ideal.div _ x - _) (count_eq _ 2 (counts r).1)

/-- Group 1 of the reference's differences: windows of 4 rows. -/
theorem DIFF_1 (V : FVec Ideal S32x19x512 .f32) (b : Fin 32) (r : Fin 19) (h : 15 ≤ r.val) (k : Fin 128) :
    DIFF V (ix4 b r 1 k) = Ideal.div (Cert.Window.ws (seq V b ⟨128 + k.val, by omega⟩) 4 r.val) (((4 : ℕ) : ℝ) : EReal) - V (ix3 b r ⟨128 + k.val, by omega⟩) := by
  rw [← window_eq V b ⟨128 + k.val, by omega⟩ r h (w := 4) rfl (by omega)]
  pointwise [DIFF]
  rw [Cert.Window.rows_sum rfl _ _ (by pointwise)]
  pointwise []
  exact congrArg (fun x => Ideal.div _ x - _) (count_eq _ 4 (counts r).2.1)

/-- Group 2 of the reference's differences: windows of 8 rows. -/
theorem DIFF_2 (V : FVec Ideal S32x19x512 .f32) (b : Fin 32) (r : Fin 19) (h : 15 ≤ r.val) (k : Fin 128) :
    DIFF V (ix4 b r 2 k) = Ideal.div (Cert.Window.ws (seq V b ⟨256 + k.val, by omega⟩) 8 r.val) (((8 : ℕ) : ℝ) : EReal) - V (ix3 b r ⟨256 + k.val, by omega⟩) := by
  rw [← window_eq V b ⟨256 + k.val, by omega⟩ r h (w := 8) rfl (by omega)]
  pointwise [DIFF]
  rw [Cert.Window.rows_sum rfl _ _ (by pointwise)]
  pointwise []
  exact congrArg (fun x => Ideal.div _ x - _) (count_eq _ 8 (counts r).2.2.1)

/-- Group 3 of the reference's differences: windows of 16 rows. -/
theorem DIFF_3 (V : FVec Ideal S32x19x512 .f32) (b : Fin 32) (r : Fin 19) (h : 15 ≤ r.val) (k : Fin 128) :
    DIFF V (ix4 b r 3 k) = Ideal.div (Cert.Window.ws (seq V b ⟨384 + k.val, by omega⟩) 16 r.val) (((16 : ℕ) : ℝ) : EReal) - V (ix3 b r ⟨384 + k.val, by omega⟩) := by
  rw [← window_eq V b ⟨384 + k.val, by omega⟩ r h (w := 16) rfl (by omega)]
  pointwise [DIFF]
  rw [Cert.Window.rows_sum rfl _ _ (by pointwise)]
  pointwise []
  exact congrArg (fun x => Ideal.div _ x - _) (count_eq _ 16 (counts r).2.2.2)

/-- The sample reference's pooled rows, read at a column of group `g`. -/
theorem POOL_at (V : FVec Ideal S32x19x512 .f32) (Wp : FVec Ideal S1x4x128x128 .f32) (sc : FVec Ideal S1x512 .f32)
    (b : Fin 32) (p : Fin 4) (g : Fin 4) (c : Fin 128) :
    POOL V Wp sc (ix3 0 ⟨b.val * 4 + p.val, by omega⟩ ⟨g.val * 128 + c.val, by omega⟩)
      = (∑ k : Fin 128, Wp (ix4 0 g k c) * DIFF V (ix4 b ⟨15 + p.val, by omega⟩ g k)) * sc (ix2 0 ⟨g.val * 128 + c.val, by omega⟩) := by
  pointwise [POOL]

end Cert.Reference6Ideal.Value
-- ==== Proof.SamplePoolTile.lean ====
module

public import proofs.«01_k».proof.Proof.Gen.Kernel6Ideal.Frame
public import Idealize.ShloMosaic.Lib.Pointwise
public import Idealize.ShloMosaic.Lib.Pipeline.ValueKit
public import proofs.«01_k».proof.Proof.Window

@[expose] public section

set_option maxRecDepth 16384
set_option maxHeartbeats 1000000

noncomputable section

open Idealize.ShloMosaic Idealize.ShloMosaic.TcCoe Idealize.SL.Sem
open Idealize.ShloMosaic.Pipeline (Dat)

namespace Cert.Kernel6Ideal.PoolTile

open Cert.Kernel6Ideal Cert.Kernel6Ideal.Gen
open Cert.Window (ws ws_double)

/-- Row `n - 16` of a column of the padded sequences, and zero where there is no such row. -/
def erow (E : FVec Ideal S1x768x512 .f32) (j : Fin 512) (n : Nat) : EReal :=
  if h : 16 ≤ n ∧ n - 16 < 768 then E (ix3 0 ⟨n - 16, h.2⟩ j) else 0

/-- The difference of window mean and token at a row of the padded sequences, the window `w` rows long. -/
def diffX (E : FVec Ideal S1x768x512 .f32) (w : Nat) (r : Fin 768) (j : Fin 512) : EReal :=
  Ideal.div (ws (erow E j) w (r.val + 16)) ((w : ℝ) : EReal) - E (ix3 0 r j)

/-- The pooled rows of the padded sequences: each group's differences through its map, scaled. -/
def POOLX (E : FVec Ideal S1x768x512 .f32) (wp : FVec Ideal S4x128x128 .bf16) (sc : FVec Ideal S1x512 .f32) (r : Fin 768) (g : Fin 4) (c : Fin 128) : EReal :=
  (∑ k : Fin 128, diffX E (2 ^ (g.val + 1)) r ⟨g.val * 128 + k.val, by omega⟩ * wp (ix3 g k c)) * sc (ix2 0 ⟨g.val * 128 + c.val, by omega⟩)

/-- Adding a tile rotated down by the window's length doubles the window, on rows the rotation does not wrap to. -/
theorem roll (f : Fin 512 → Nat → EReal) (o i w lo : Nat) (ho : o + 128 ≤ 512) (s : BitVec 32) (hs : s.toNat = w)
    (hw : w ≤ 8) (x : FVec Ideal S272x128 .f32) (hr : S272x128.Rotates 0 none)
    (hx : ∀ (e : Fin 272) (c : Fin 128), lo ≤ e.val → x (ix2 e c) = ws (f ⟨o + c.val, by omega⟩) w (i * 256 + e.val))
    (e : Fin 272) (c : Fin 128) (he : lo + w ≤ e.val) :
    addf x (dynamicRotate 0 s none x hr) (ix2 e c) = ws (f ⟨o + c.val, by omega⟩) (w + w) (i * 256 + e.val) := by
  have hb := e.isLt
  pointwise []
  rw [hx e c (by omega), hx _ c (by show lo ≤ (e.val + 272 - s.toNat % 272) % 272; omega), ← ws_double]
  have e2 : i * 256 + (e.val + 272 - s.toNat % 272) % 272 = i * 256 + e.val - w := by omega
  show _ + ws _ w (i * 256 + (e.val + 272 - s.toNat % 272) % 272) = _
  rw [e2]

/-- A tile plus itself rotated down by one row. -/
def roll1 (x : FVec Ideal S272x128 .f32) : FVec Ideal S272x128 .f32 := addf x (dynamicRotate 0 1#32 none x rotates_S272x128_d0)
/-- A tile plus itself rotated down by two rows. -/
def roll2 (x : FVec Ideal S272x128 .f32) : FVec Ideal S272x128 .f32 := addf x (dynamicRotate 0 2#32 none x rotates_S272x128_d0)
/-- A tile plus itself rotated down by four rows. -/
def roll4 (x : FVec Ideal S272x128 .f32) : FVec Ideal S272x128 .f32 := addf x (dynamicRotate 0 4#32 none x rotates_S272x128_d0)
/-- A tile plus itself rotated down by eight rows. -/
def roll8 (x : FVec Ideal S272x128 .f32) : FVec Ideal S272x128 .f32 := addf x (dynamicRotate 0 8#32 none x rotates_S272x128_d0)

/-- The difference of window mean and token as the body computes it: a division in the first 16 rows, a constant factor below. -/
def meanDiff (P : IVec S16x1 32) (S : FVec Ideal S272x128 .f32) (w cw : BitVec 32) (uo : FVec Ideal S256x128 .f32) : FVec Ideal S256x128 .bf16 :=
  truncf .bf16 (subf (concatenate S256x128 0 [
      ⟨S16x128, divf (extractStridedSlice S16x128 ![16, 0] S slices_S272x128_o16_0_S16x128)
        (broadcastTo S16x128 (sitofp .f32 (minsi (addi P (broadcast S16x1 1#32)) (broadcast S16x1 w)) : FVec Ideal S16x1 .f32) broadcasts_S16x1_S16x128)⟩,
      ⟨S240x128, mulf (extractStridedSlice S240x128 ![32, 0] S slices_S272x128_o32_0_S240x128) (broadcast S240x128 (Scalar.ofBits .f32 cw))⟩]
      concatenates_S16x128_S240x128_S256x128_d0) uo) bitsLt_bf16_f32

/-- The body's mean is the sum divided by the window's length, where every count is that length and the constant is its reciprocal. -/
theorem meanDiff_at (P : IVec S16x1 32) (S : FVec Ideal S272x128 .f32) (w cw : BitVec 32) (n : Nat) (hn : n ≠ 0)
    (hc : Ideal.ofBits .f32 cw = ((1 / (n : ℝ) : ℝ) : EReal))
    (hP : ∀ q : Fin 16, (IntOp.minsi (IntOp.addi (P (ix2 q 0)) 1#32) w).toInt = n)
    (uo : FVec Ideal S256x128 .f32) (p : Fin 256) (k : Fin 128) :
    meanDiff P S w cw uo (ix2 p k) = Ideal.div (S (ix2 ⟨16 + p.val, by omega⟩ k)) ((n : ℝ) : EReal) - uo (ix2 p k) := by
  pointwise [meanDiff]
  refine congrArg (· - _) ?_
  by_cases h : p.val < 16
  · rw [dif_pos h]
    refine congrArg (Ideal.div _) ?_
    show (((IntOp.minsi (IntOp.addi (P (ix2 ⟨p.val, h⟩ 0)) 1#32) w).toInt : ℝ) : EReal) = _
    rw [hP ⟨p.val, h⟩]
    norm_cast
  · rw [dif_neg h, hc, Ideal.div_coe (by exact_mod_cast hn)]
    refine congrArg (· * _) (congrArg S ?_)
    refine (ix2_inj ..).2 ⟨Fin.ext ?_, rfl⟩
    show 32 + (p.val - 16) = 16 + p.val
    omega

/-- One group's differences through its map, scaled. -/
def grp (d : FVec Ideal S256x128 .bf16) (w : Vec Ideal S1x128x128 .bf16) (s : Vec Ideal S1x128 .f32) : FVec Ideal S256x128 .bf16 :=
  truncf .bf16 (mulf (matmul dot_S256x128_S128x128_S256x128_1_0_0_1_n_n none d (shapeCast S128x128 w shapeCasts_S1x128x128_S128x128 : FVec Ideal S128x128 .bf16) (constant S256x128 .f32 0x00000000#32))
    (broadcastTo S256x128 s broadcasts_S1x128_S256x128)) bitsLt_bf16_f32

/-- Four groups side by side. -/
def cat4 (a b c d : FVec Ideal S256x128 .bf16) : FVec Ideal S1x256x512 .bf16 :=
  shapeCast S1x256x512 (concatenate S256x512 1 [⟨S256x128, a⟩, ⟨S256x128, b⟩, ⟨S256x128, c⟩, ⟨S256x128, d⟩] concatenates_S256x128_S256x128_S256x128_S256x128_S256x512_d1) shapeCasts_S256x512_S1x256x512

/-- What the body stores, from the tile, the rows before it, the group maps and the scales. -/
def poolPay (i : grid0.Coords) (u : Vec Ideal S1x256x512 .f32) (h : Vec Ideal S1x16x512 .f32) (wp : Vec Ideal S4x128x128 .bf16) (sc : Vec Ideal S1x512 .f32) : FVec Ideal S1x256x512 .bf16 :=
  k0_pay1 (k0_pay5 i h u (View.ld wp r0_2) (View.ld sc r0_3)) (k0_pay6 (k0_pay2 u) (k0_pay3 i h u) (k0_pay4 i) (View.ld wp r0_4) (View.ld sc r0_5))
    (k0_pay10 (k0_pay2 u) (k0_pay8 (k0_pay3 i h u) (k0_pay4 i)) (k0_pay9 (k0_pay3 i h u)) (Scalar.ofBits .f32 0x3E000000#32) (View.ld wp r0_6) (View.ld sc r0_7))
    (k0_pay11 (k0_pay2 u) (k0_pay3 i h u) (k0_pay4 i) (View.ld wp r0_8)) (View.ld sc r0_9)

/-- The stored block, group by group. -/
theorem poolPay_eq (i : grid0.Coords) (u : Vec Ideal S1x256x512 .f32) (h : Vec Ideal S1x16x512 .f32) (wp : Vec Ideal S4x128x128 .bf16) (sc : Vec Ideal S1x512 .f32) :
    poolPay i u h wp sc = cat4
      (grp (meanDiff (k0_pay4 i) (roll1 (extractStridedSlice S272x128 ![0, 0] (k0_pay3 i h u) slices_S272x512_o0_0_S272x128)) 2#32 0x3F000000#32 (extractStridedSlice S256x128 ![0, 0] (k0_pay2 u) slices_S256x512_o0_0_S256x128))
        (View.ld wp r0_2) (View.ld sc r0_3))
      (grp (meanDiff (k0_pay4 i) (roll2 (roll1 (extractStridedSlice S272x128 ![0, 128] (k0_pay3 i h u) slices_S272x512_o0_128_S272x128))) 4#32 0x3E800000#32 (extractStridedSlice S256x128 ![0, 128] (k0_pay2 u) slices_S256x512_o0_128_S256x128))
        (View.ld wp r0_4) (View.ld sc r0_5))
      (grp (meanDiff (k0_pay4 i) (roll4 (roll2 (roll1 (extractStridedSlice S272x128 ![0, 256] (k0_pay3 i h u) slices_S272x512_o0_256_S272x128)))) 8#32 0x3E000000#32 (extractStridedSlice S256x128 ![0, 256] (k0_pay2 u) slices_S256x512_o0_256_S256x128))
        (View.ld wp r0_6) (View.ld sc r0_7))
      (grp (meanDiff (k0_pay4 i) (roll8 (roll4 (roll2 (roll1 (extractStridedSlice S272x128 ![0, 384] (k0_pay3 i h u) slices_S272x512_o0_384_S272x128))))) 16#32 0x3D800000#32 (extractStridedSlice S256x128 ![0, 384] (k0_pay2 u) slices_S256x512_o0_384_S256x128))
        (View.ld wp r0_8) (View.ld sc r0_9)) := rfl

/-- The reciprocals of the four windows' lengths. -/
theorem consts : Ideal.ofBits .f32 0x3F000000#32 = ((1 / ((2 : ℕ) : ℝ) : ℝ) : EReal) ∧ Ideal.ofBits .f32 0x3E800000#32 = ((1 / ((4 : ℕ) : ℝ) : ℝ) : EReal)
    ∧ Ideal.ofBits .f32 0x3E000000#32 = ((1 / ((8 : ℕ) : ℝ) : ℝ) : EReal) ∧ Ideal.ofBits .f32 0x3D800000#32 = ((1 / ((16 : ℕ) : ℝ) : ℝ) : EReal) := by
  refine ⟨?_, ?_, ?_, ?_⟩ <;> (simp [Ideal.ofBits, Ideal.ieee, -EReal.coe_mul]; try norm_num)

/-- The positions lie so far along that every window is full. -/
theorem counts : ∀ r : Fin 768, (IntOp.minsi (IntOp.addi (BitVec.ofNat 32 (16384 + r.val)) 1#32) 2#32).toInt = 2
    ∧ (IntOp.minsi (IntOp.addi (BitVec.ofNat 32 (16384 + r.val)) 1#32) 4#32).toInt = 4
    ∧ (IntOp.minsi (IntOp.addi (BitVec.ofNat 32 (16384 + r.val)) 1#32) 8#32).toInt = 8
    ∧ (IntOp.minsi (IntOp.addi (BitVec.ofNat 32 (16384 + r.val)) 1#32) 16#32).toInt = 16 := by
  decide +kernel

/-- The position of a tile's row, as the body computes it. -/
theorem pos_at (n q : Nat) : IntOp.addi (IntOp.addi 16384#32 (IntOp.muli (BitVec.ofNat 32 n) 256#32)) (BitVec.ofNat 32 q) = BitVec.ofNat 32 (16384 + (n * 256 + q)) := by
  simp only [IntOp.addi, IntOp.muli, BitVec.ofNat_add, BitVec.ofNat_mul, BitVec.add_assoc]

/-- The positions as the body has them. -/
theorem pay4_at (i : grid0.Coords) (q : Fin 16) : k0_pay4 i (ix2 q 0) = BitVec.ofNat 32 (16384 + ((i 1).val * 256 + q.val)) := by
  refine Eq.trans ?_ (pos_at (i 1).val q.val)
  pointwise [k0_pay4]
  rfl

section
variable (E : FVec Ideal S1x768x512 .f32) (i : grid0.Coords) (n : Nat) (hn : n < 3) (u : Vec Ideal S1x256x512 .f32) (h : Vec Ideal S1x16x512 .f32)
    (hu : ∀ (p : Fin 256) (j : Fin 512), u (ix3 0 p j) = E (ix3 0 ⟨n * 256 + p.val, by omega⟩ j))
    (hh : ∀ (e : Fin 272) (j : Fin 512), k0_pay3 i h u (ix2 e j) = erow E j (n * 256 + e.val))
include hu hh

/-- The tile's columns of one group, each row a window of one. -/
theorem cols_at (o : Nat) (ho : o + 128 ≤ 512) (x : FVec Ideal S272x128 .f32)
    (hx : ∀ (e : Fin 272) (c : Fin 128), x (ix2 e c) = k0_pay3 i h u (ix2 e ⟨o + c.val, by omega⟩)) (e : Fin 272) (c : Fin 128) (he : 0 ≤ e.val) :
    x (ix2 e c) = ws (erow E ⟨o + c.val, by omega⟩) 1 (n * 256 + e.val) := by
  rw [hx, hh]
  unfold ws
  rw [Finset.sum_range_one, Nat.sub_zero]

/-- The differences of one group at the tile's rows, from the tile's window sums. -/
theorem meanDiff_ws (o w lo : Nat) (ho : o + 128 ≤ 512) (hlo : lo ≤ 16) (S : FVec Ideal S272x128 .f32) (wb cw : BitVec 32) (hw : w ≠ 0)
    (hm : ∀ r : Fin 768, (IntOp.minsi (IntOp.addi (BitVec.ofNat 32 (16384 + r.val)) 1#32) wb).toInt = w) (hc : Ideal.ofBits .f32 cw = ((1 / (w : ℝ) : ℝ) : EReal)) (uo : FVec Ideal S256x128 .f32)
    (hS : ∀ (e : Fin 272) (c : Fin 128), lo ≤ e.val → S (ix2 e c) = ws (erow E ⟨o + c.val, by omega⟩) w (n * 256 + e.val))
    (huo : ∀ (p : Fin 256) (k : Fin 128), uo (ix2 p k) = u (ix3 0 p ⟨o + k.val, by omega⟩)) (p : Fin 256) (k : Fin 128) :
    meanDiff (k0_pay4 i) S wb cw uo (ix2 p k) = diffX E w ⟨n * 256 + p.val, by omega⟩ ⟨o + k.val, by omega⟩ := by
  rw [meanDiff_at (k0_pay4 i) S wb cw w hw hc (fun q => (congrArg (fun z => (IntOp.minsi (IntOp.addi z 1#32) wb).toInt) (pay4_at i q)).trans (hm ⟨(i 1).val * 256 + q.val, by have := (i 1).isLt; have : (i 1).val < 3 := this; omega⟩)) uo p k, huo, hu, hS ⟨16 + p.val, by omega⟩ k (by show lo ≤ 16 + p.val; omega)]
  unfold diffX
  have e : n * 256 + (16 + p.val) = n * 256 + p.val + 16 := by omega
  show Ideal.div (ws _ w (n * 256 + (16 + p.val))) _ - _ = _
  rw [e]

/-- The differences of group 0 at the tile's rows. -/
theorem diff0 (p : Fin 256) (k : Fin 128) :
    meanDiff (k0_pay4 i) (roll1 (extractStridedSlice S272x128 ![0, 0] (k0_pay3 i h u) slices_S272x512_o0_0_S272x128)) 2#32 0x3F000000#32 (extractStridedSlice S256x128 ![0, 0] (k0_pay2 u) slices_S256x512_o0_0_S256x128) (ix2 p k)
      = diffX E 2 ⟨n * 256 + p.val, by omega⟩ ⟨0 + k.val, by omega⟩ := by
  have h1 := cols_at E i n hn u h hu hh 0 (by omega) (extractStridedSlice S272x128 ![0, 0] (k0_pay3 i h u) slices_S272x512_o0_0_S272x128) (fun e c => by pointwise [])
  have h2 := roll (erow E) 0 n 1 0 (by omega) 1#32 rfl (by omega) _ rotates_S272x128_d0 h1
  exact meanDiff_ws E i n hn u h hu hh 0 2 1 (by omega) (by omega) _ _ _ (by omega) (fun r => (counts r).1) consts.1 _ h2 (fun p k => by pointwise [k0_pay2]) p k

/-- The differences of group 1 at the tile's rows. -/
theorem diff1 (p : Fin 256) (k : Fin 128) :
    meanDiff (k0_pay4 i) (roll2 (roll1 (extractStridedSlice S272x128 ![0, 128] (k0_pay3 i h u) slices_S272x512_o0_128_S272x128))) 4#32 0x3E800000#32 (extractStridedSlice S256x128 ![0, 128] (k0_pay2 u) slices_S256x512_o0_128_S256x128) (ix2 p k)
      = diffX E 4 ⟨n * 256 + p.val, by omega⟩ ⟨128 + k.val, by omega⟩ := by
  have h1 := cols_at E i n hn u h hu hh 128 (by omega) (extractStridedSlice S272x128 ![0, 128] (k0_pay3 i h u) slices_S272x512_o0_128_S272x128) (fun e c => by pointwise [])
  have h2 := roll (erow E) 128 n 1 0 (by omega) 1#32 rfl (by omega) _ rotates_S272x128_d0 h1
  have h4 := roll (erow E) 128 n 2 1 (by omega) 2#32 rfl (by omega) _ rotates_S272x128_d0 h2
  exact meanDiff_ws E i n hn u h hu hh 128 4 3 (by omega) (by omega) _ _ _ (by omega) (fun r => (counts r).2.1) consts.2.1 _ h4 (fun p k => by pointwise [k0_pay2]) p k

/-- The differences of group 2 at the tile's rows. -/
theorem diff2 (p : Fin 256) (k : Fin 128) :
    meanDiff (k0_pay4 i) (roll4 (roll2 (roll1 (extractStridedSlice S272x128 ![0, 256] (k0_pay3 i h u) slices_S272x512_o0_256_S272x128)))) 8#32 0x3E000000#32 (extractStridedSlice S256x128 ![0, 256] (k0_pay2 u) slices_S256x512_o0_256_S256x128) (ix2 p k)
      = diffX E 8 ⟨n * 256 + p.val, by omega⟩ ⟨256 + k.val, by omega⟩ := by
  have h1 := cols_at E i n hn u h hu hh 256 (by omega) (extractStridedSlice S272x128 ![0, 256] (k0_pay3 i h u) slices_S272x512_o0_256_S272x128) (fun e c => by pointwise [])
  have h2 := roll (erow E) 256 n 1 0 (by omega) 1#32 rfl (by omega) _ rotates_S272x128_d0 h1
  have h4 := roll (erow E) 256 n 2 1 (by omega) 2#32 rfl (by omega) _ rotates_S272x128_d0 h2
  have h8 := roll (erow E) 256 n 4 3 (by omega) 4#32 rfl (by omega) _ rotates_S272x128_d0 h4
  exact meanDiff_ws E i n hn u h hu hh 256 8 7 (by omega) (by omega) _ _ _ (by omega) (fun r => (counts r).2.2.1) consts.2.2.1 _ h8 (fun p k => by pointwise [k0_pay2]) p k

/-- The differences of group 3 at the tile's rows. -/
theorem diff3 (p : Fin 256) (k : Fin 128) :
    meanDiff (k0_pay4 i) (roll8 (roll4 (roll2 (roll1 (extractStridedSlice S272x128 ![0, 384] (k0_pay3 i h u) slices_S272x512_o0_384_S272x128))))) 16#32 0x3D800000#32 (extractStridedSlice S256x128 ![0, 384] (k0_pay2 u) slices_S256x512_o0_384_S256x128) (ix2 p k)
      = diffX E 16 ⟨n * 256 + p.val, by omega⟩ ⟨384 + k.val, by omega⟩ := by
  have h1 := cols_at E i n hn u h hu hh 384 (by omega) (extractStridedSlice S272x128 ![0, 384] (k0_pay3 i h u) slices_S272x512_o0_384_S272x128) (fun e c => by pointwise [])
  have h2 := roll (erow E) 384 n 1 0 (by omega) 1#32 rfl (by omega) _ rotates_S272x128_d0 h1
  have h4 := roll (erow E) 384 n 2 1 (by omega) 2#32 rfl (by omega) _ rotates_S272x128_d0 h2
  have h8 := roll (erow E) 384 n 4 3 (by omega) 4#32 rfl (by omega) _ rotates_S272x128_d0 h4
  have h16 := roll (erow E) 384 n 8 7 (by omega) 8#32 rfl (by omega) _ rotates_S272x128_d0 h8
  exact meanDiff_ws E i n hn u h hu hh 384 16 15 (by omega) (by omega) _ _ _ (by omega) (fun r => (counts r).2.2.2) consts.2.2.2 _ h16 (fun p k => by pointwise [k0_pay2]) p k

/-- The stored block at the tile's rows. -/
theorem poolPay_at (wp : FVec Ideal S4x128x128 .bf16) (sc : FVec Ideal S1x512 .f32) (p : Fin 256) (g : Fin 4) (c : Fin 128) :
    poolPay i u h wp sc (ix3 0 p ⟨g.val * 128 + c.val, by omega⟩) = POOLX E wp sc ⟨n * 256 + p.val, by omega⟩ g c := by
  rw [poolPay_eq]
  have d0 := diff0 E i n hn u h hu hh p
  have d1 := diff1 E i n hn u h hu hh p
  have d2 := diff2 E i n hn u h hu hh p
  have d3 := diff3 E i n hn u h hu hh p
  revert d0 d1 d2 d3
  generalize meanDiff _ (roll1 _) _ _ _ = D0
  generalize meanDiff _ (roll2 _) _ _ _ = D1
  generalize meanDiff _ (roll4 _) _ _ _ = D2
  generalize meanDiff _ (roll8 _) _ _ _ = D3
  intro d0 d1 d2 d3
  unfold POOLX
  fin_cases g <;> pointwise [cat4, grp, r0_2, r0_3, r0_4, r0_5, r0_6, r0_7, r0_8, r0_9]
  · exact congrArg (· * _) (Finset.sum_congr rfl fun x _ => by rw [d0]; exact congrArg (· * _) (congrArg (diffX E 2 _) (Fin.ext (Nat.zero_add _))))
  · exact congrArg (· * _) (Finset.sum_congr rfl fun x _ => by rw [d1]; rfl)
  · rw [dif_neg (by omega), dif_neg (by omega), dif_pos (by omega)]
    have e : 256 + c.val - 128 - 128 = c.val := by omega
    simp only [e, Fin.eta]
    exact congrArg (· * _) (Finset.sum_congr rfl fun x _ => by rw [d2]; rfl)
  · rw [dif_neg (by omega), dif_neg (by omega), dif_neg (by omega)]
    have e : 384 + c.val - 128 - 128 - 128 = c.val := by omega
    simp only [e, Fin.eta]
    exact congrArg (· * _) (Finset.sum_congr rfl fun x _ => by rw [d3]; rfl)
end

/-- What the body stores at a row and column, the row and the column named by their numbers. -/
theorem poolPay_row (E : FVec Ideal S1x768x512 .f32) (i : grid0.Coords) (n : Nat) (hn : n < 3) (u : Vec Ideal S1x256x512 .f32) (h : Vec Ideal S1x16x512 .f32)
    (hu : ∀ (p : Fin 256) (j : Fin 512) (r : Fin 768), r.val = n * 256 + p.val → u (ix3 0 p j) = E (ix3 0 r j))
    (hh : ∀ (e : Fin 272) (j : Fin 512), k0_pay3 i h u (ix2 e j) = erow E j (n * 256 + e.val)) (wp : Vec Ideal S4x128x128 .bf16) (sc : Vec Ideal S1x512 .f32)
    (p : Fin 256) (g : Fin 4) (c : Fin 128) (k : Fin 512) (hk : k.val = g.val * 128 + c.val) (r : Fin 768) (hr : r.val = n * 256 + p.val) :
    poolPay i u h wp sc (ix3 0 p k) = POOLX E wp sc r g c := by
  have ek : k = ⟨g.val * 128 + c.val, by omega⟩ := Fin.ext hk
  have er : r = ⟨n * 256 + p.val, by omega⟩ := Fin.ext hr
  rw [ek, er]
  exact poolPay_at E i n hn u h (fun p j => hu p j _ rfl) hh wp sc p g c

end Cert.Kernel6Ideal.PoolTile
-- ==== Proof.SamplePool.lean ====
module

public import proofs.«01_k».proof.Defs
public import proofs.«01_k».proof.Proof.Gen.Kernel6.Frame
public import proofs.«01_k».proof.Proof.Gen.Kernel6Ideal.Frame
public import proofs.«01_k».proof.Proof.SamplePoolRef
public import proofs.«01_k».proof.Proof.SamplePoolTile
public import Idealize.ShloMosaic.Lib.Pointwise
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.Kernel6Ideal.Pool

open Cert.Kernel6Ideal Cert.Kernel6Ideal.Gen Cert.Kernel6Ideal.PoolTile
open Cert.Reference6Ideal.Value (UF DIFF POOL seq DIFF_0 DIFF_1 DIFF_2 DIFF_3 POOL_at)
open Cert.Window (ws)

variable (m : (ℓ : Loc nD τ sig) → Buf (Elt Ideal) ℓ)

/-- The sequences padded to 24 rows each, one below the other. -/
def A_v4 (x : FVec Ideal S32x19x512 .f32) : FVec Ideal S1x768x512 .f32 :=
  shapeCast S1x768x512 (pad S32x24x512 ![0, 1, 0] ![0, 4, 0] ![0, 0, 0] x (sitofp .f32 (constantI S_ 32 0#32) : FVec Ideal S_ .f32) pads_S32x19x512_S32x24x512_000_140_000 h_S_) shapeCasts_S32x24x512_S1x768x512

/-- The group maps as the call reads them. -/
def A_v6 (x : FVec Ideal S1x4x128x128 .f32) : FVec Ideal S4x128x128 .bf16 :=
  truncf .bf16 (shapeCast S4x128x128 x shapeCasts_S1x4x128x128_S4x128x128) bitsLt_bf16_f32

/-- The padded sequences of the launch's arguments. -/
abbrev EE (c : Dev nD) : FVec Ideal S1x768x512 .f32 := A_v4 (UF (m ((c : Thread nD τ).loc main_arg0)) (m ((c : Thread nD τ).loc main_arg1)))

/-- A row of a padded sequence that is one of the sequence's. -/
theorem A_v4_at (x : FVec Ideal S32x19x512 .f32) (r : Fin 768) (b : Fin 32) (e : Fin 19) (hr : r.val = b.val * 24 + 1 + e.val) (j : Fin 512) :
    A_v4 x (ix3 0 r j) = x (ix3 b e j) := by
  pointwise [A_v4]
  rw [dif_pos (by have := b.isLt; have := e.isLt; omega)]
  refine congrArg x (congrArg₂ (fun p q => ix3 p q j) (Fin.ext ?_) (Fin.ext ?_))
  · show r.val / 24 = b.val
    have := e.isLt
    omega
  · show r.val % 24 - 1 = e.val
    have := e.isLt
    omega

/-- An entry of the group maps. -/
theorem A_v6_at (x : FVec Ideal S1x4x128x128 .f32) (g : Fin 4) (k c : Fin 128) : A_v6 x (ix3 g k c) = x (ix4 0 g k c) := by
  pointwise [A_v6]

/-- The windows' block indices. -/
theorem idx : ∀ t : Fin cfg0.N, win0_0.index t = ![0, t.val, 0] ∧ win0_1.index t = ![0, t.val * 16 - 1, 0]
    ∧ (∀ a, win0_2.index t a = 0) ∧ (∀ a, win0_3.index t a = 0) ∧ win0_4.index t = ![0, t.val, 0] ∧ ((grid0.coords t) 1).val = t.val ∧ t.val < 3 :=
  (by decide +kernel : ∀ t : Fin grid0.N, _)

/-- The padded sequences as the call finds them. -/
theorem V_v4 (c : Dev nD) : V m c main_v4 = EE m c := rfl

/-- The group maps as the call finds them. -/
theorem V_v6 (c : Dev nD) : V m c main_v6 = A_v6 (m ((c : Thread nD τ).loc main_arg2)) := rfl

/-- The maps' block. -/
theorem blk2 (c : Dev nD) (t : Fin cfg0.N) : iblk m c 2 t = A_v6 (m ((c : Thread nD τ).loc main_arg2)) :=
  funext fun x => congrArg (V m c main_v6) (funext fun a => Fin.ext (Pipeline.Window.rect_emb_val_of_index_zero win0_2 t a ((idx t).2.2.1 a) x))

/-- The scales' block. -/
theorem blk3 (c : Dev nD) (t : Fin cfg0.N) : iblk m c 3 t = m ((c : Thread nD τ).loc main_arg3) :=
  (funext fun x => congrArg (V m c main_arg3) (funext fun a => Fin.ext (Pipeline.Window.rect_emb_val_of_index_zero win0_3 t a ((idx t).2.2.2.1 a) x)) : iblk m c 3 t = V m c main_arg3).trans (V_main_arg3 m c)

/-- A row of the tile. -/
theorem tile_at (c : Dev nD) (t : Fin cfg0.N) (p : Fin 256) (j : Fin 512) (r : Fin 768) (hr : r.val = t.val * 256 + p.val) :
    (show FVec Ideal S1x256x512 .f32 from iblk m c 0 t) (ix3 0 p j) = EE m c (ix3 0 r j) := by
  refine congrArg (V m c main_v4) (funext fun a => Fin.ext ((Pipeline.Window.rect_emb_val win0_0 t (ix3 0 p j) a).trans ?_))
  rw [(idx t).1]
  fin_cases a
  · rfl
  · exact hr.symm
  · exact (Nat.zero_add _)

/-- A row before the tile. -/
theorem hist_at (c : Dev nD) (t : Fin cfg0.N) (ht : 0 < t.val) (p : Fin 16) (j : Fin 512) (r : Fin 768) (hr : r.val = (t.val * 16 - 1) * 16 + p.val) :
    (show FVec Ideal S1x16x512 .f32 from iblk m c 1 t) (ix3 0 p j) = EE m c (ix3 0 r j) := by
  refine congrArg (V m c main_v4) (funext fun a => Fin.ext ((Pipeline.Window.rect_emb_val win0_1 t (ix3 0 p j) a).trans ?_))
  rw [(idx t).2.1]
  fin_cases a
  · rfl
  · exact hr.symm
  · exact (Nat.zero_add _)

/-- The rows before the tile stand for nothing at the first tile. -/
theorem select_first (a b : EReal) : (Scalar.select (Scalar.cmpi CmpIPredicate.sgt (BitVec.ofNat 32 0) 0#32) a b : EReal) = b := rfl

/-- The rows before the tile stand for themselves at the later tiles. -/
theorem select_later (n : Nat) (h0 : 0 < n) (hn : n < 3) (a b : EReal) : (Scalar.select (Scalar.cmpi CmpIPredicate.sgt (BitVec.ofNat 32 n) 0#32) a b : EReal) = a := by
  interval_cases n <;> rfl

/-- The tile with the rows before it in front. -/
theorem ext_at (E : FVec Ideal S1x768x512 .f32) (i : grid0.Coords) (n : Nat) (hn : n < 3) (hi : (i 1).val = n) (u : Vec Ideal S1x256x512 .f32) (h : Vec Ideal S1x16x512 .f32)
    (hu : ∀ (p : Fin 256) (j : Fin 512), u (ix3 0 p j) = E (ix3 0 ⟨n * 256 + p.val, by omega⟩ j))
    (hh : 0 < n → ∀ (p : Fin 16) (j : Fin 512), h (ix3 0 p j) = E (ix3 0 ⟨(n * 16 - 1) * 16 + p.val, by omega⟩ j))
    (e : Fin 272) (j : Fin 512) : k0_pay3 i h u (ix2 e j) = erow E j (n * 256 + e.val) := by
  have he := e.isLt
  pointwise [k0_pay3, k0_pay2]
  unfold erow
  by_cases h16 : e.val < 16
  · rw [dif_pos h16, hi]
    by_cases h0 : 0 < n
    · rw [dif_pos (by omega)]
      refine (select_later n h0 hn _ _).trans ((hh h0 ⟨e.val, h16⟩ j).trans ?_)
      exact congrArg (fun q => E (ix3 0 q j)) (Fin.ext (by show (n * 16 - 1) * 16 + e.val = n * 256 + e.val - 16; omega))
    · have hz : n = 0 := by omega
      subst hz
      rw [dif_neg (by omega)]
      exact select_first _ _
  · rw [dif_neg h16, dif_pos (by omega), hu]
    exact congrArg (fun q => E (ix3 0 q j)) (Fin.ext (by show n * 256 + (e.val - 16) = n * 256 + e.val - 16; omega))

/-- The pooled rows of the padded sequences, as the call leaves them. -/
def GX (E : FVec Ideal S1x768x512 .f32) (wp : FVec Ideal S4x128x128 .bf16) (sc : FVec Ideal S1x512 .f32) : FVec Ideal S1x768x512 .bf16 := fun y =>
  have h : (y 2).val < 512 := (y 2).isLt
  POOLX E wp sc (y 1) ⟨(y 2).val / 128, by omega⟩ ⟨(y 2).val % 128, by omega⟩

/-- The pooled rows by group. -/
theorem GX_at (E : FVec Ideal S1x768x512 .f32) (wp : FVec Ideal S4x128x128 .bf16) (sc : FVec Ideal S1x512 .f32) (r : Fin 768) (g : Fin 4) (c : Fin 128) :
    GX E wp sc (ix3 0 r ⟨g.val * 128 + c.val, by omega⟩) = POOLX E wp sc r g c := by
  show POOLX E wp sc r ⟨(g.val * 128 + c.val) / 128, _⟩ ⟨(g.val * 128 + c.val) % 128, _⟩ = _
  exact congrArg₂ (POOLX E wp sc r) (Fin.ext (by show (g.val * 128 + c.val) / 128 = g.val; omega)) (Fin.ext (by show (g.val * 128 + c.val) % 128 = c.val; omega))

/-- What the body stores at a row and column of its block. -/
theorem point_at (c : Dev nD) (t : Fin cfg0.N) (y0 : Fin 1) (y1 : Fin 256) (y2 : Fin 512) (r : Fin 768) (k : Fin 512)
    (hr : r.val = t.val * 256 + y1.val) (hk : k.val = y2.val) :
    poolPay (grid0.coords t) (iblk m c 0 t) (iblk m c 1 t) (A_v6 (m ((c : Thread nD τ).loc main_arg2))) (m ((c : Thread nD τ).loc main_arg3)) (ix3 y0 y1 y2)
      = GX (EE m c) (A_v6 (m ((c : Thread nD τ).loc main_arg2))) (m ((c : Thread nD τ).loc main_arg3)) (ix3 0 r k) := by
  have h0 : y0 = 0 := Fin.ext (by omega)
  obtain ⟨-, -, -, -, -, hc, ht⟩ := idx t
  subst h0
  exact poolPay_row (EE m c) (grid0.coords t) t.val ht (iblk m c 0 t) (iblk m c 1 t) (fun p j r hr => tile_at m c t p j r hr)
    (ext_at (EE m c) (grid0.coords t) t.val ht hc (iblk m c 0 t) (iblk m c 1 t) (fun p j => tile_at m c t p j _ rfl) (fun h p j => hist_at m c t h p j _ rfl)) _ _ y1
    ⟨k.val / 128, by omega⟩ ⟨k.val % 128, by omega⟩ y2 (by show y2.val = k.val / 128 * 128 + k.val % 128; omega) r hr

/-- What the body stores at an index of its block. -/
theorem point_of (c : Dev nD) (t : Fin cfg0.N) (y : S1x256x512.Idx) :
    poolPay (grid0.coords t) (iblk m c 0 t) (iblk m c 1 t) (A_v6 (m ((c : Thread nD τ).loc main_arg2))) (m ((c : Thread nD τ).loc main_arg3)) y
      = GX (EE m c) (A_v6 (m ((c : Thread nD τ).loc main_arg2))) (m ((c : Thread nD τ).loc main_arg3)) (((cfg0.win 4).blk t).view.emb y) := by
  have ht : t.val < 3 := (idx t).2.2.2.2.2.2
  have h1 : (y 1).val < 256 := (y 1).isLt
  have hi := (idx t).2.2.2.2.1
  have e : ((cfg0.win 4).blk t).view.emb y = ix3 0 ⟨t.val * 256 + (y 1).val, by omega⟩ ⟨(y 2).val, (y 2).isLt⟩ :=
    funext fun a => Fin.ext ((Pipeline.Window.rect_emb_val win0_4 t y a).trans (by
      rw [hi]
      fin_cases a
      · show 0 * 1 + (y 0).val = 0
        have h : (y 0).val < 1 := (y 0).isLt
        omega
      · rfl
      · exact Nat.zero_add _))
  refine Eq.trans ?_ (congrArg (GX (EE m c) _ _) e).symm
  idx_vars y
  exact point_at m c t y0 y1 y2 _ _ rfl rfl

/-- The pooled array after the run. -/
theorem pool_final (c : Dev nD) : (dats m 0 c).arrAt 4 (cfgs 0).N
    = GX (EE m c) (A_v6 (m ((c : Thread nD τ).loc main_arg2))) (m ((c : Thread nD τ).loc main_arg3)) := by
  refine (dats m 0 c).arrAt_eq_of_covers 4 _ (by decide +kernel) fun t hf y => ?_
  blk_simp
  rw [after0_4, blk2, blk3]
  frame_out
  have e12 : k0_pay12 (grid0.coords t) (iblk m c 0 t) (iblk m c 1 t) (A_v6 (m ((c : Thread nD τ).loc main_arg2))) (m ((c : Thread nD τ).loc main_arg3)) = k0_pay2 (iblk m c 0 t) :=
    congrArg k0_pay2 (View.ld_unit_lit _ _ (by decide))
  have e13 : k0_pay13 (grid0.coords t) (iblk m c 0 t) (iblk m c 1 t) (A_v6 (m ((c : Thread nD τ).loc main_arg2))) (m ((c : Thread nD τ).loc main_arg3)) = k0_pay3 (grid0.coords t) (iblk m c 1 t) (iblk m c 0 t) :=
    congrArg₂ (k0_pay3 (grid0.coords t)) (View.ld_unit_lit _ _ (by decide)) (View.ld_unit_lit _ _ (by decide))
  rw [e12, e13]
  refine Eq.trans ?_ (point_of m c t y)
  rfl

/-- The window sum at one of the new rows, over the padded sequences and over the sequence itself. -/
theorem ws_pad (V : FVec Ideal S32x19x512 .f32) (b : Fin 32) (p : Fin 4) (w : Nat) (hw : w ≤ 16) (j : Fin 512) :
    ws (erow (A_v4 V) j) w (b.val * 24 + 16 + p.val + 16) = ws (seq V b j) w (15 + p.val) := by
  unfold ws
  refine Finset.sum_congr rfl fun s hs => ?_
  have h := Finset.mem_range.mp hs
  have hb := b.isLt
  have hp := p.isLt
  unfold erow seq
  rw [dif_pos (by omega), dif_pos (by omega)]
  exact A_v4_at V _ b ⟨15 + p.val - s, by omega⟩ (by show b.val * 24 + 16 + p.val + 16 - s - 16 = b.val * 24 + 1 + (15 + p.val - s); omega) j

/-- The difference at one of the new rows, over the padded sequences. -/
theorem diff_pad (V : FVec Ideal S32x19x512 .f32) (b : Fin 32) (p : Fin 4) (w : Nat) (hw : w ≤ 16) (j : Fin 512) :
    diffX (A_v4 V) w ⟨b.val * 24 + 16 + p.val, by omega⟩ j = Ideal.div (ws (seq V b j) w (15 + p.val)) ((w : ℝ) : EReal) - V (ix3 b ⟨15 + p.val, by omega⟩ j) :=
  congrArg₂ (fun x y : EReal => Ideal.div x ((w : ℝ) : EReal) - y) (ws_pad V b p w hw j)
    (A_v4_at V _ b ⟨15 + p.val, by omega⟩ (by show b.val * 24 + 16 + p.val = b.val * 24 + 1 + (15 + p.val); omega) j)

/-- The difference at one of the new rows is the reference's. -/
theorem diff_eq (V : FVec Ideal S32x19x512 .f32) (b : Fin 32) (p : Fin 4) (g : Fin 4) (k : Fin 128) :
    diffX (A_v4 V) (2 ^ (g.val + 1)) ⟨b.val * 24 + 16 + p.val, by omega⟩ ⟨g.val * 128 + k.val, by omega⟩ = DIFF V (ix4 b ⟨15 + p.val, by omega⟩ g k) := by
  have h : 15 ≤ (⟨15 + p.val, by omega⟩ : Fin 19).val := Nat.le_add_right _ _
  fin_cases g
  · exact (diff_pad V b p 2 (by omega) _).trans (DIFF_0 V b _ h k).symm
  · exact (diff_pad V b p 4 (by omega) _).trans (DIFF_1 V b _ h k).symm
  · exact (diff_pad V b p 8 (by omega) _).trans (DIFF_2 V b _ h k).symm
  · exact (diff_pad V b p 16 (by omega) _).trans (DIFF_3 V b _ h k).symm

/-- The new rows cut out of the pooled array are the reference's. -/
theorem rows_eq (V : FVec Ideal S32x19x512 .f32) (Wp : FVec Ideal S1x4x128x128 .f32) (sc : FVec Ideal S1x512 .f32) :
    shapeCast S1x128x512 (extractStridedSlice S32x4x512 ![0, 16, 0] (shapeCast S32x24x512 (GX (A_v4 V) (A_v6 Wp) sc) shapeCasts_S1x768x512_S32x24x512) slices_S32x24x512_S32x4x512_0_16_0) shapeCasts_S32x4x512_S1x128x512
      = POOL V Wp sc := by
  funext y
  idx_vars y
  have h0 : y0 = 0 := Fin.ext (by omega)
  obtain ⟨b, p, h1⟩ : ∃ (b : Fin 32) (p : Fin 4), y1 = ⟨b.val * 4 + p.val, by omega⟩ :=
    ⟨⟨y1.val / 4, by omega⟩, ⟨y1.val % 4, by omega⟩, Fin.ext (by show y1.val = y1.val / 4 * 4 + y1.val % 4; omega)⟩
  obtain ⟨g, c, h2⟩ : ∃ (g : Fin 4) (c : Fin 128), y2 = ⟨g.val * 128 + c.val, by omega⟩ :=
    ⟨⟨y2.val / 128, by omega⟩, ⟨y2.val % 128, by omega⟩, Fin.ext (by show y2.val = y2.val / 128 * 128 + y2.val % 128; omega)⟩
  subst h0 h1 h2
  rw [POOL_at]
  have e : shapeCast S1x128x512 (extractStridedSlice S32x4x512 ![0, 16, 0] (shapeCast S32x24x512 (GX (A_v4 V) (A_v6 Wp) sc) shapeCasts_S1x768x512_S32x24x512) slices_S32x24x512_S32x4x512_0_16_0) shapeCasts_S32x4x512_S1x128x512
      (ix3 0 ⟨b.val * 4 + p.val, by omega⟩ ⟨g.val * 128 + c.val, by omega⟩) = GX (A_v4 V) (A_v6 Wp) sc (ix3 0 ⟨b.val * 24 + 16 + p.val, by omega⟩ ⟨g.val * 128 + c.val, by omega⟩) := by
    pointwise
    exact congrArg (fun r => GX (A_v4 V) (A_v6 Wp) sc (ix3 0 r ⟨g.val * 128 + c.val, _⟩)) (Fin.ext (Nat.add_assoc _ _ _).symm)
  refine e.trans ((GX_at _ _ _ _ _ _).trans ?_)
  unfold POOLX
  refine congrArg (· * _) (Finset.sum_congr rfl fun k _ => ?_)
  rw [diff_eq, A_v6_at]
  exact mul_comm _ _

/-- The pooled new rows after the host lines that follow the call. -/
theorem rows_final (c : Dev nD) : Pipeline.afterTail₀ cfgs (dats m) 0 (V0 m) [hostOps1] c main_v10
    = POOL (UF (m ((c : Thread nD τ).loc main_arg0)) (m ((c : Thread nD τ).loc main_arg1))) (m ((c : Thread nD τ).loc main_arg2)) (m ((c : Thread nD τ).loc main_arg3)) := by
  have h : Pipeline.withArrays (cfgs 0).spec c (V0 m c) (fun w => (dats m 0 c).arrAt w (cfgs 0).N) (Proc.devRef .tc main_v7) = GX (EE m c) (A_v6 (m ((c : Thread nD τ).loc main_arg2))) (m ((c : Thread nD τ).loc main_arg3)) := by
    refine (Pipeline.withArrays_arr_shared spec0 c (V0 m c) _ (fun w w' hw he => ?_) 4).trans (pool_final m c)
    have hin : (cfg0.win w).isOut = false :=
      (by decide +kernel : ∀ w w' : Fin cfg0.W, w ≠ w' → Pipeline.arrRef spec0 w = Pipeline.arrRef spec0 w' → (cfg0.win w).isOut = false) w w' hw he
    exact ((dats m 0 c).arrAt_in w hin _).trans (A_eq m c w)
  unfold Pipeline.afterTail₀
  simp only [List.flatten_cons, List.flatten_nil, List.append_nil]
  after_results
  rw [h]
  exact rows_eq _ _ _

end Cert.Kernel6Ideal.Pool

namespace Cert.Proof

open Cert.Kernel6Ideal Cert.Kernel6Ideal.Gen Cert.Kernel6Ideal.Pool TcCoe in
/-- The sample's pooling ends with its rows at the reference's and its arguments as they were. -/
theorem sample_pool_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v10) = Cert.Reference6Ideal.Value.POOL (Cert.Reference6Ideal.Value.UF (m ((c : Thread nD τ).loc main_arg0)) (m ((c : Thread nD τ).loc main_arg1))) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨((h.1 c).2 main_v10 (Pipeline.mem_restRefs_of main_v10 (by decide) (by decide))).trans (rows_final m c), h.2 c⟩)
    (θ_run_and (run_main m g) (Cert.Kernel6Ideal.Gen.unchanged m g))

open TcCoe in
/-- The sample's pooling computes its reference over the reals. -/
theorem algebraic_sample_pool : Cert.algebraic_Kernel6Ideal_Reference6Ideal (hKernel6Ideal := Cert.Kernel6Ideal.Gen.facts) (hReference6Ideal := Cert.Reference6Ideal.Gen.facts) := by
  intro m g m' g' _ hagree
  refine ⟨_, sample_pool_run m g, ?_⟩
  refine (θ_run Cert.Reference6Ideal.defs _ _).mono (fun r h c => ?_) (Cert.Reference6Ideal.Value.run m' g')
  obtain ⟨h0, h1, h2, h3⟩ := hagree c
  refine ⟨(h c).1.trans ?_, (h c).2⟩
  rw [← h0, ← h1, ← h2, ← h3]
  rfl

/-- The sample pooling's reference leaves its arguments as they were and no semaphore counted. -/
theorem sample_pool_reference_frame : Cert.quiescent_Reference6Ideal (hReference6Ideal := Cert.Reference6Ideal.Gen.facts) := by
  intro m g _
  refine (θ_run Cert.Reference6Ideal.defs _ _).mono (fun r h => ?_) (Cert.Reference6Ideal.Value.run m g)
  exact ⟨fun c => (h c).2, sem_eq_zero_of_no_sems (by decide) _⟩

end Cert.Proof

end
-- ==== Proof.lean ====
module

public import proofs.«01_k».proof.Defs
public import proofs.«01_k».proof.Proof.Mixer
public import proofs.«01_k».proof.Proof.Out
public import proofs.«01_k».proof.Proof.Sample
public import proofs.«01_k».proof.Proof.Ada
public import proofs.«01_k».proof.Proof.OutP
public import proofs.«01_k».proof.Proof.SamplePool
public import Idealize.ShloMosaic.Adequacy
public import Idealize.ShloMosaic.Init

@[expose] public section

noncomputable section

namespace Cert.Proof

open Idealize.ShloMosaic Idealize.SL.Sem

/-- The certificate's claims, one after the other: the frames, the idealizations, the equalities of values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, fun m ρ hp => reference_frame m ρ hp,
  fun m ρ _ => Cert.Kernel2.Gen.frame m ρ trivial, fun m ρ _ => Cert.Kernel2Ideal.Gen.frame m ρ trivial, fun m ρ hp => out_reference_frame m ρ hp,
  fun m ρ _ => Cert.Kernel3.Gen.frame m ρ, fun m ρ _ => Cert.Kernel3Ideal.Gen.frame m ρ, fun m ρ hp => sample_reference_frame m ρ hp,
  fun m ρ _ => Cert.Kernel4.Gen.frame m ρ, fun m ρ _ => Cert.Kernel4Ideal.Gen.frame m ρ, fun m ρ hp => ada_reference_frame m ρ hp,
  fun m ρ _ => Cert.Kernel5.Gen.frame m ρ trivial, fun m ρ _ => Cert.Kernel5Ideal.Gen.frame m ρ trivial, fun m ρ hp => prompt_out_reference_frame m ρ hp,
  fun m ρ _ => Cert.Kernel6.Gen.frame m ρ, fun m ρ _ => Cert.Kernel6Ideal.Gen.frame m ρ, fun m ρ hp => sample_pool_reference_frame m ρ hp,
  trivial, algebraic_mixer, trivial, algebraic_out, trivial, algebraic_sample, trivial, algebraic_ada, trivial, algebraic_prompt_out, trivial, algebraic_sample_pool⟩

end Cert.Proof

end
